-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_top16_readable_KernelIdeal [hPre_top16_readable_KernelIdeal : Cert.Pre_top16_readable_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_top16_readable_KernelIdeal.fn (F := Ideal) (m ((c.tc : Thread Cert.KernelIdeal.nD Cert.KernelIdeal.τ).loc Cert.KernelIdeal.main_arg0))).1 = (fun _ => 1#1)
    ∧ (Cert.Pre_top16_readable_KernelIdeal.fn (F := Ideal) (m ((c.tc : Thread Cert.KernelIdeal.nD Cert.KernelIdeal.τ).loc Cert.KernelIdeal.main_arg0))).2.1 = (fun _ => 1#1)
    ∧ (Cert.Pre_top16_readable_KernelIdeal.fn (F := Ideal) (m ((c.tc : Thread Cert.KernelIdeal.nD Cert.KernelIdeal.τ).loc Cert.KernelIdeal.main_arg0))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_top16_readable_ReferenceIdeal [hPre_top16_readable_ReferenceIdeal : Cert.Pre_top16_readable_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_top16_readable_ReferenceIdeal.fn (F := Ideal) (m ((c.tc : Thread Cert.ReferenceIdeal.nD Cert.ReferenceIdeal.τ).loc Cert.ReferenceIdeal.main_arg0))).1 = (fun _ => 1#1)
    ∧ (Cert.Pre_top16_readable_ReferenceIdeal.fn (F := Ideal) (m ((c.tc : Thread Cert.ReferenceIdeal.nD Cert.ReferenceIdeal.τ).loc Cert.ReferenceIdeal.main_arg0))).2.1 = (fun _ => 1#1)
    ∧ (Cert.Pre_top16_readable_ReferenceIdeal.fn (F := Ideal) (m ((c.tc : Thread Cert.ReferenceIdeal.nD Cert.ReferenceIdeal.τ).loc Cert.ReferenceIdeal.main_arg0))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_top16_readable_KernelIdeal [hKernelIdeal : Cert.KernelIdeal.Facts] [hPre_top16_readable_KernelIdeal : Cert.Pre_top16_readable_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_top16_readable_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_top16_readable_ReferenceIdeal [hReferenceIdeal : Cert.ReferenceIdeal.Facts] [hPre_top16_readable_ReferenceIdeal : Cert.Pre_top16_readable_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_top16_readable_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_top16_readable_KernelIdeal [hKernelIdeal : Cert.KernelIdeal.Facts] [hReferenceIdeal : Cert.ReferenceIdeal.Facts] [hPre_top16_readable_KernelIdeal : Cert.Pre_top16_readable_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_top16_readable_KernelIdeal m →
    (∀ c : Dev Cert.KernelIdeal.nD,
      m ((c.tc : Thread Cert.KernelIdeal.nD Cert.KernelIdeal.τ).loc Cert.KernelIdeal.main_arg0) = Layout.blockN ⟨2, ![512, 4096]⟩ ⟨2, ![512, 8192]⟩ (Layout.meshBlock [2, 2, 2] ![[], [2]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_top16_readable_KernelIdeal : Cert.Pre_top16_readable_KernelIdeal.Facts) (hPre_top16_readable_ReferenceIdeal : Cert.Pre_top16_readable_ReferenceIdeal.Facts),
    quiescent_Kernel (hKernel := hKernel)
    ∧ quiescent_KernelIdeal (hKernelIdeal := hKernelIdeal)
    ∧ quiescent_KernelIdeal_pre_top16_readable_KernelIdeal (hKernelIdeal := hKernelIdeal) (hPre_top16_readable_KernelIdeal := hPre_top16_readable_KernelIdeal)
    ∧ quiescent_ReferenceIdeal (hReferenceIdeal := hReferenceIdeal)
    ∧ quiescent_ReferenceIdeal_pre_top16_readable_ReferenceIdeal (hReferenceIdeal := hReferenceIdeal) (hPre_top16_readable_ReferenceIdeal := hPre_top16_readable_ReferenceIdeal)
    ∧ preserves_Kernel_KernelIdeal
    ∧ algebraic_KernelIdeal_ReferenceIdeal_pre_top16_readable_KernelIdeal (hKernelIdeal := hKernelIdeal) (hReferenceIdeal := hReferenceIdeal) (hPre_top16_readable_KernelIdeal := hPre_top16_readable_KernelIdeal)
-- ==== Pre_top16_readable_KernelIdeal.lean ====
abbrev S512x4096 : Shape := ⟨2, ![512, 4096]⟩
abbrev S512x16 : Shape := ⟨2, ![512, 16]⟩
abbrev S512x32x128 : Shape := ⟨3, ![512, 32, 128]⟩
abbrev S512x1x128 : Shape := ⟨3, ![512, 1, 128]⟩
abbrev S512x128 : Shape := ⟨2, ![512, 128]⟩
abbrev S512x15 : Shape := ⟨2, ![512, 15]⟩
abbrev S512x1 : Shape := ⟨2, ![512, 1]⟩
abbrev S_ : Shape := ⟨0, ![]⟩

class Facts : Prop where
  slices_S512x4096_S512x16_0_4080 : S512x4096.Slices ![0, 4080] S512x16
  shapeCasts_S512x4096_S512x32x128 : S512x4096.ShapeCasts S512x32x128
  slices_S512x32x128_S512x1x128_0_26_0 : S512x32x128.Slices ![0, 26, 0] S512x1x128
  shapeCasts_S512x1x128_S512x128 : S512x1x128.ShapeCasts S512x128
  slices_S512x16_S512x15_0_0 : S512x16.Slices ![0, 0] S512x15
  slices_S512x16_S512x15_0_1 : S512x16.Slices ![0, 1] S512x15
  slices_S512x16_S512x1_0_0 : S512x16.Slices ![0, 0] S512x1
  bcast_S_S512x1 : S_.BroadcastsInDim S512x1 (![] : Fin 0 → Fin S512x1.rank)
  bcast_S512x1_S512x128_0_1 : S512x1.BroadcastsInDim S512x128 (![0, 1] : Fin 2 → Fin S512x128.rank)

variable [Facts]

variable {F : FTy → Type} [FloatOps F]
def comparator_f32_d1 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9

def fn_sort {F : FTy → Type} [FloatOps F] (arg0 : FVec F S512x4096 .f32) : FVec F S512x4096 .f32 :=
  let v0 : FVec F S512x4096 .f32 := (fun x => Host.sort S512x4096 1 comparator_f32_d1 x) arg0
  v0

def fn_sort_0 {F : FTy → Type} [FloatOps F] (arg0 : FVec F S512x32x128 .f32) : FVec F S512x32x128 .f32 :=
  let v0 : FVec F S512x32x128 .f32 := (fun x => Host.sort S512x32x128 1 comparator_f32_d1 x) arg0
  v0

def fn {F : FTy → Type} [FloatOps F] (main_arg0 : FVec F S512x4096 .f32) : IVec S512x15 1 × IVec S512x1 1 × IVec S512x128 1 :=
  let main_v0 : FVec F S512x4096 .f32 := fn_sort (F := F) main_arg0
  let main_v1 : FVec F S512x16 .f32 := (extractStridedSlice S512x16 ![0, 4080] · slices_S512x4096_S512x16_0_4080) main_v0
  let main_v2 : FVec F S512x32x128 .f32 := shapeCast S512x32x128 main_arg0 shapeCasts_S512x4096_S512x32x128
  let main_v3 : FVec F S512x32x128 .f32 := fn_sort_0 (F := F) main_v2
  let main_v4 : FVec F S512x1x128 .f32 := (extractStridedSlice S512x1x128 ![0, 26, 0] · slices_S512x32x128_S512x1x128_0_26_0) main_v3
  let main_v5 : FVec F S512x128 .f32 := shapeCast S512x128 main_v4 shapeCasts_S512x1x128_S512x128
  let main_v6 : FVec F S512x15 .f32 := (extractStridedSlice S512x15 ![0, 0] · slices_S512x16_S512x15_0_0) main_v1
  let main_v7 : FVec F S512x15 .f32 := (extractStridedSlice S512x15 ![0, 1] · slices_S512x16_S512x15_0_1) main_v1
  let main_v8 : IVec S512x15 1 := cmpf .olt main_v6 main_v7
  let main_v9 : FVec F S512x1 .f32 := (extractStridedSlice S512x1 ![0, 0] · slices_S512x16_S512x1_0_0) main_v1
  let main_cst : FVec F S_ .f32 := constant S_ .f32 0xFF7FFFFF#32
  let main_v10 : FVec F S512x1 .f32 := broadcastInDim S512x1 ![] bcast_S_S512x1 main_cst
  let main_v11 : IVec S512x1 1 := cmpf .oge main_v9 main_v10
  let main_v12 : FVec F S512x1 .f32 := (extractStridedSlice S512x1 ![0, 0] · slices_S512x16_S512x1_0_0) main_v1
  let main_v13 : FVec F S512x128 .f32 := broadcastInDim S512x128 ![0, 1] bcast_S512x1_S512x128_0_1 main_v12
  let main_v14 : IVec S512x128 1 := cmpf .olt main_v5 main_v13
  (main_v8, main_v11, main_v14)
-- ==== Pre_top16_readable_ReferenceIdeal.lean ====
abbrev S512x8192 : Shape := ⟨2, ![512, 8192]⟩
abbrev S512x16 : Shape := ⟨2, ![512, 16]⟩
abbrev S512x64x128 : Shape := ⟨3, ![512, 64, 128]⟩
abbrev S512x1x128 : Shape := ⟨3, ![512, 1, 128]⟩
abbrev S512x128 : Shape := ⟨2, ![512, 128]⟩
abbrev S512x15 : Shape := ⟨2, ![512, 15]⟩
abbrev S512x1 : Shape := ⟨2, ![512, 1]⟩
abbrev S_ : Shape := ⟨0, ![]⟩

class Facts : Prop where
  slices_S512x8192_S512x16_0_8176 : S512x8192.Slices ![0, 8176] S512x16
  shapeCasts_S512x8192_S512x64x128 : S512x8192.ShapeCasts S512x64x128
  slices_S512x64x128_S512x1x128_0_58_0 : S512x64x128.Slices ![0, 58, 0] S512x1x128
  shapeCasts_S512x1x128_S512x128 : S512x1x128.ShapeCasts S512x128
  slices_S512x16_S512x15_0_0 : S512x16.Slices ![0, 0] S512x15
  slices_S512x16_S512x15_0_1 : S512x16.Slices ![0, 1] S512x15
  slices_S512x16_S512x1_0_0 : S512x16.Slices ![0, 0] S512x1
  bcast_S_S512x1 : S_.BroadcastsInDim S512x1 (![] : Fin 0 → Fin S512x1.rank)
  bcast_S512x1_S512x128_0_1 : S512x1.BroadcastsInDim S512x128 (![0, 1] : Fin 2 → Fin S512x128.rank)

variable [Facts]

variable {F : FTy → Type} [FloatOps F]
def comparator_f32_d1 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9

def fn_sort {F : FTy → Type} [FloatOps F] (arg0 : FVec F S512x8192 .f32) : FVec F S512x8192 .f32 :=
  let v0 : FVec F S512x8192 .f32 := (fun x => Host.sort S512x8192 1 comparator_f32_d1 x) arg0
  v0

def fn_sort_0 {F : FTy → Type} [FloatOps F] (arg0 : FVec F S512x64x128 .f32) : FVec F S512x64x128 .f32 :=
  let v0 : FVec F S512x64x128 .f32 := (fun x => Host.sort S512x64x128 1 comparator_f32_d1 x) arg0
  v0

def fn {F : FTy → Type} [FloatOps F] (main_arg0 : FVec F S512x8192 .f32) : IVec S512x15 1 × IVec S512x1 1 × IVec S512x128 1 :=
  let main_v0 : FVec F S512x8192 .f32 := fn_sort (F := F) main_arg0
  let main_v1 : FVec F S512x16 .f32 := (extractStridedSlice S512x16 ![0, 8176] · slices_S512x8192_S512x16_0_8176) main_v0
  let main_v2 : FVec F S512x64x128 .f32 := shapeCast S512x64x128 main_arg0 shapeCasts_S512x8192_S512x64x128
  let main_v3 : FVec F S512x64x128 .f32 := fn_sort_0 (F := F) main_v2
  let main_v4 : FVec F S512x1x128 .f32 := (extractStridedSlice S512x1x128 ![0, 58, 0] · slices_S512x64x128_S512x1x128_0_58_0) main_v3
  let main_v5 : FVec F S512x128 .f32 := shapeCast S512x128 main_v4 shapeCasts_S512x1x128_S512x128
  let main_v6 : FVec F S512x15 .f32 := (extractStridedSlice S512x15 ![0, 0] · slices_S512x16_S512x15_0_0) main_v1
  let main_v7 : FVec F S512x15 .f32 := (extractStridedSlice S512x15 ![0, 1] · slices_S512x16_S512x15_0_1) main_v1
  let main_v8 : IVec S512x15 1 := cmpf .olt main_v6 main_v7
  let main_v9 : FVec F S512x1 .f32 := (extractStridedSlice S512x1 ![0, 0] · slices_S512x16_S512x1_0_0) main_v1
  let main_cst : FVec F S_ .f32 := constant S_ .f32 0xFF7FFFFF#32
  let main_v10 : FVec F S512x1 .f32 := broadcastInDim S512x1 ![] bcast_S_S512x1 main_cst
  let main_v11 : IVec S512x1 1 := cmpf .oge main_v9 main_v10
  let main_v12 : FVec F S512x1 .f32 := (extractStridedSlice S512x1 ![0, 0] · slices_S512x16_S512x1_0_0) main_v1
  let main_v13 : FVec F S512x128 .f32 := broadcastInDim S512x128 ![0, 1] bcast_S512x1_S512x128_0_1 main_v12
  let main_v14 : IVec S512x128 1 := cmpf .olt main_v5 main_v13
  (main_v8, main_v11, main_v14)
-- ==== Kernel.lean ====
abbrev S512x4096 : Shape := ⟨2, ![512, 4096]⟩
abbrev S512x16 : Shape := ⟨2, ![512, 16]⟩
abbrev S2x4x128x16 : Shape := ⟨4, ![2, 4, 128, 16]⟩
abbrev S7 : Shape := ⟨1, ![7]⟩
abbrev S_ : Shape := ⟨0, ![]⟩
abbrev S128x128 : Shape := ⟨2, ![128, 128]⟩
abbrev S128x640 : Shape := ⟨2, ![128, 640]⟩
abbrev S128 : Shape := ⟨1, ![128]⟩
abbrev S128x1 : Shape := ⟨2, ![128, 1]⟩
abbrev S128x16 : Shape := ⟨2, ![128, 16]⟩
abbrev S1x1x128x16 : Shape := ⟨4, ![1, 1, 128, 16]⟩
abbrev S1 : Shape := ⟨1, ![1]⟩
abbrev S1x4x128x16 : Shape := ⟨4, ![1, 4, 128, 16]⟩
abbrev S4x128x16 : Shape := ⟨3, ![4, 128, 16]⟩
abbrev S4x128x8 : Shape := ⟨3, ![4, 128, 8]⟩
abbrev S4x128x4 : Shape := ⟨3, ![4, 128, 4]⟩
abbrev S4x128x2 : Shape := ⟨3, ![4, 128, 2]⟩
abbrev S4x128x1 : Shape := ⟨3, ![4, 128, 1]⟩

abbrev nBuf : Space → Nat
  | .hbm => 2
  | .vmem => 3
  | .smem => 0
  | _ => 0

abbrev bufTy : (tb : Table) → Fin (tcTables nBuf tb) → BufTy
  | .hbm, ⟨0, _⟩ => ⟨S512x4096, .f32⟩
  | .hbm, ⟨1, _⟩ => ⟨S512x16, .f32⟩
  | .local _ .vmem, ⟨0, _⟩ => ⟨S512x4096, .f32⟩
  | .local _ .vmem, ⟨1, _⟩ => ⟨S512x16, .f32⟩
  | .local _ .vmem, ⟨2, _⟩ => ⟨S2x4x128x16, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 1 16 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_13 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v10 : BitVec 32 := Scalar.addi v2 c0_i32
  let c2_i32_3 : BitVec 32 := 2#32
  let v11 : BitVec 32 := Scalar.muli c2_i32_3 v2
  let c0_i32_4 : BitVec 32 := 0#32
  let v12 : BitVec 32 := Scalar.muli v11 c0_i32_4
  let v13 : BitVec 32 := Scalar.subi v10 v12
  let c4_i32_12 : BitVec 32 := 4#32
  let v22 : BitVec 32 := Scalar.muli v13 c4_i32_12
  let v23 : BitVec 32 := Scalar.addi c0_i32_13 v22
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_5 : BitVec 32 := 0#32
  let v14 : BitVec 32 := Scalar.addi v5 c0_i32_5
  let c2_i32_6 : BitVec 32 := 2#32
  let v15 : BitVec 32 := Scalar.muli c2_i32_6 v5
  let c0_i32_7 : BitVec 32 := 0#32
  let v16 : BitVec 32 := Scalar.muli v15 c0_i32_7
  let v17 : BitVec 32 := Scalar.subi v14 v16
  let c2_i32_14 : BitVec 32 := 2#32
  let v24 : BitVec 32 := Scalar.muli v17 c2_i32_14
  let v25 : BitVec 32 := Scalar.addi v23 v24
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_8 : BitVec 32 := 1#32
  let v18 : BitVec 32 := Scalar.addi v8 c1_i32_8
  let c2_i32_9 : BitVec 32 := 2#32
  let v19 : BitVec 32 := Scalar.muli c2_i32_9 v8
  let c1_i32_10 : BitVec 32 := 1#32
  let v20 : BitVec 32 := Scalar.muli v19 c1_i32_10
  let v21 : BitVec 32 := Scalar.subi v18 v20
  let c1_i32_15 : BitVec 32 := 1#32
  let v26 : BitVec 32 := Scalar.muli v21 c1_i32_15
  let v27 : BitVec 32 := Scalar.addi v25 v26
  v27.toNat
def k0_dev2 (d0 : Dev nD) : Nat :=
  let c0_i32_27 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_16 : BitVec 32 := 0#32
  let v28 : BitVec 32 := Scalar.addi v2 c0_i32_16
  let c2_i32_17 : BitVec 32 := 2#32
  let v29 : BitVec 32 := Scalar.muli c2_i32_17 v2
  let c0_i32_18 : BitVec 32 := 0#32
  let v30 : BitVec 32 := Scalar.muli v29 c0_i32_18
  let v31 : BitVec 32 := Scalar.subi v28 v30
  let c4_i32_26 : BitVec 32 := 4#32
  let v40 : BitVec 32 := Scalar.muli v31 c4_i32_26
  let v41 : BitVec 32 := Scalar.addi c0_i32_27 v40
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_19 : BitVec 32 := 1#32
  let v32 : BitVec 32 := Scalar.addi v5 c1_i32_19
  let c2_i32_20 : BitVec 32 := 2#32
  let v33 : BitVec 32 := Scalar.muli c2_i32_20 v5
  let c1_i32_21 : BitVec 32 := 1#32
  let v34 : BitVec 32 := Scalar.muli v33 c1_i32_21
  let v35 : BitVec 32 := Scalar.subi v32 v34
  let c2_i32_28 : BitVec 32 := 2#32
  let v42 : BitVec 32 := Scalar.muli v35 c2_i32_28
  let v43 : BitVec 32 := Scalar.addi v41 v42
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_22 : BitVec 32 := 0#32
  let v36 : BitVec 32 := Scalar.addi v8 c0_i32_22
  let c2_i32_23 : BitVec 32 := 2#32
  let v37 : BitVec 32 := Scalar.muli c2_i32_23 v8
  let c0_i32_24 : BitVec 32 := 0#32
  let v38 : BitVec 32 := Scalar.muli v37 c0_i32_24
  let v39 : BitVec 32 := Scalar.subi v36 v38
  let c1_i32_29 : BitVec 32 := 1#32
  let v44 : BitVec 32 := Scalar.muli v39 c1_i32_29
  let v45 : BitVec 32 := Scalar.addi v43 v44
  v45.toNat
def k0_dev3 (d0 : Dev nD) : Nat :=
  let c0_i32_41 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_30 : BitVec 32 := 0#32
  let v46 : BitVec 32 := Scalar.addi v2 c0_i32_30
  let c2_i32_31 : BitVec 32 := 2#32
  let v47 : BitVec 32 := Scalar.muli c2_i32_31 v2
  let c0_i32_32 : BitVec 32 := 0#32
  let v48 : BitVec 32 := Scalar.muli v47 c0_i32_32
  let v49 : BitVec 32 := Scalar.subi v46 v48
  let c4_i32_40 : BitVec 32 := 4#32
  let v58 : BitVec 32 := Scalar.muli v49 c4_i32_40
  let v59 : BitVec 32 := Scalar.addi c0_i32_41 v58
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_33 : BitVec 32 := 1#32
  let v50 : BitVec 32 := Scalar.addi v5 c1_i32_33
  let c2_i32_34 : BitVec 32 := 2#32
  let v51 : BitVec 32 := Scalar.muli c2_i32_34 v5
  let c1_i32_35 : BitVec 32 := 1#32
  let v52 : BitVec 32 := Scalar.muli v51 c1_i32_35
  let v53 : BitVec 32 := Scalar.subi v50 v52
  let c2_i32_42 : BitVec 32 := 2#32
  let v60 : BitVec 32 := Scalar.muli v53 c2_i32_42
  let v61 : BitVec 32 := Scalar.addi v59 v60
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_36 : BitVec 32 := 1#32
  let v54 : BitVec 32 := Scalar.addi v8 c1_i32_36
  let c2_i32_37 : BitVec 32 := 2#32
  let v55 : BitVec 32 := Scalar.muli c2_i32_37 v8
  let c1_i32_38 : BitVec 32 := 1#32
  let v56 : BitVec 32 := Scalar.muli v55 c1_i32_38
  let v57 : BitVec 32 := Scalar.subi v54 v56
  let c1_i32_43 : BitVec 32 := 1#32
  let v62 : BitVec 32 := Scalar.muli v57 c1_i32_43
  let v63 : BitVec 32 := Scalar.addi v61 v62
  v63.toNat
def k0_dev4 (d0 : Dev nD) : Nat :=
  let c0_i32_55 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_44 : BitVec 32 := 1#32
  let v64 : BitVec 32 := Scalar.addi v2 c1_i32_44
  let c2_i32_45 : BitVec 32 := 2#32
  let v65 : BitVec 32 := Scalar.muli c2_i32_45 v2
  let c1_i32_46 : BitVec 32 := 1#32
  let v66 : BitVec 32 := Scalar.muli v65 c1_i32_46
  let v67 : BitVec 32 := Scalar.subi v64 v66
  let c4_i32_54 : BitVec 32 := 4#32
  let v76 : BitVec 32 := Scalar.muli v67 c4_i32_54
  let v77 : BitVec 32 := Scalar.addi c0_i32_55 v76
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_47 : BitVec 32 := 0#32
  let v68 : BitVec 32 := Scalar.addi v5 c0_i32_47
  let c2_i32_48 : BitVec 32 := 2#32
  let v69 : BitVec 32 := Scalar.muli c2_i32_48 v5
  let c0_i32_49 : BitVec 32 := 0#32
  let v70 : BitVec 32 := Scalar.muli v69 c0_i32_49
  let v71 : BitVec 32 := Scalar.subi v68 v70
  let c2_i32_56 : BitVec 32 := 2#32
  let v78 : BitVec 32 := Scalar.muli v71 c2_i32_56
  let v79 : BitVec 32 := Scalar.addi v77 v78
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_50 : BitVec 32 := 0#32
  let v72 : BitVec 32 := Scalar.addi v8 c0_i32_50
  let c2_i32_51 : BitVec 32 := 2#32
  let v73 : BitVec 32 := Scalar.muli c2_i32_51 v8
  let c0_i32_52 : BitVec 32 := 0#32
  let v74 : BitVec 32 := Scalar.muli v73 c0_i32_52
  let v75 : BitVec 32 := Scalar.subi v72 v74
  let c1_i32_57 : BitVec 32 := 1#32
  let v80 : BitVec 32 := Scalar.muli v75 c1_i32_57
  let v81 : BitVec 32 := Scalar.addi v79 v80
  v81.toNat
def k0_dev5 (d0 : Dev nD) : Nat :=
  let c0_i32_69 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_58 : BitVec 32 := 1#32
  let v82 : BitVec 32 := Scalar.addi v2 c1_i32_58
  let c2_i32_59 : BitVec 32 := 2#32
  let v83 : BitVec 32 := Scalar.muli c2_i32_59 v2
  let c1_i32_60 : BitVec 32 := 1#32
  let v84 : BitVec 32 := Scalar.muli v83 c1_i32_60
  let v85 : BitVec 32 := Scalar.subi v82 v84
  let c4_i32_68 : BitVec 32 := 4#32
  let v94 : BitVec 32 := Scalar.muli v85 c4_i32_68
  let v95 : BitVec 32 := Scalar.addi c0_i32_69 v94
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_61 : BitVec 32 := 0#32
  let v86 : BitVec 32 := Scalar.addi v5 c0_i32_61
  let c2_i32_62 : BitVec 32 := 2#32
  let v87 : BitVec 32 := Scalar.muli c2_i32_62 v5
  let c0_i32_63 : BitVec 32 := 0#32
  let v88 : BitVec 32 := Scalar.muli v87 c0_i32_63
  let v89 : BitVec 32 := Scalar.subi v86 v88
  let c2_i32_70 : BitVec 32 := 2#32
  let v96 : BitVec 32 := Scalar.muli v89 c2_i32_70
  let v97 : BitVec 32 := Scalar.addi v95 v96
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_64 : BitVec 32 := 1#32
  let v90 : BitVec 32 := Scalar.addi v8 c1_i32_64
  let c2_i32_65 : BitVec 32 := 2#32
  let v91 : BitVec 32 := Scalar.muli c2_i32_65 v8
  let c1_i32_66 : BitVec 32 := 1#32
  let v92 : BitVec 32 := Scalar.muli v91 c1_i32_66
  let v93 : BitVec 32 := Scalar.subi v90 v92
  let c1_i32_71 : BitVec 32 := 1#32
  let v98 : BitVec 32 := Scalar.muli v93 c1_i32_71
  let v99 : BitVec 32 := Scalar.addi v97 v98
  v99.toNat
def k0_dev6 (d0 : Dev nD) : Nat :=
  let c0_i32_83 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_72 : BitVec 32 := 1#32
  let v100 : BitVec 32 := Scalar.addi v2 c1_i32_72
  let c2_i32_73 : BitVec 32 := 2#32
  let v101 : BitVec 32 := Scalar.muli c2_i32_73 v2
  let c1_i32_74 : BitVec 32 := 1#32
  let v102 : BitVec 32 := Scalar.muli v101 c1_i32_74
  let v103 : BitVec 32 := Scalar.subi v100 v102
  let c4_i32_82 : BitVec 32 := 4#32
  let v112 : BitVec 32 := Scalar.muli v103 c4_i32_82
  let v113 : BitVec 32 := Scalar.addi c0_i32_83 v112
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_75 : BitVec 32 := 1#32
  let v104 : BitVec 32 := Scalar.addi v5 c1_i32_75
  let c2_i32_76 : BitVec 32 := 2#32
  let v105 : BitVec 32 := Scalar.muli c2_i32_76 v5
  let c1_i32_77 : BitVec 32 := 1#32
  let v106 : BitVec 32 := Scalar.muli v105 c1_i32_77
  let v107 : BitVec 32 := Scalar.subi v104 v106
  let c2_i32_84 : BitVec 32 := 2#32
  let v114 : BitVec 32 := Scalar.muli v107 c2_i32_84
  let v115 : BitVec 32 := Scalar.addi v113 v114
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_78 : BitVec 32 := 0#32
  let v108 : BitVec 32 := Scalar.addi v8 c0_i32_78
  let c2_i32_79 : BitVec 32 := 2#32
  let v109 : BitVec 32 := Scalar.muli c2_i32_79 v8
  let c0_i32_80 : BitVec 32 := 0#32
  let v110 : BitVec 32 := Scalar.muli v109 c0_i32_80
  let v111 : BitVec 32 := Scalar.subi v108 v110
  let c1_i32_85 : BitVec 32 := 1#32
  let v116 : BitVec 32 := Scalar.muli v111 c1_i32_85
  let v117 : BitVec 32 := Scalar.addi v115 v116
  v117.toNat
def k0_dev7 (d0 : Dev nD) : Nat :=
  let c0_i32_97 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_86 : BitVec 32 := 1#32
  let v118 : BitVec 32 := Scalar.addi v2 c1_i32_86
  let c2_i32_87 : BitVec 32 := 2#32
  let v119 : BitVec 32 := Scalar.muli c2_i32_87 v2
  let c1_i32_88 : BitVec 32 := 1#32
  let v120 : BitVec 32 := Scalar.muli v119 c1_i32_88
  let v121 : BitVec 32 := Scalar.subi v118 v120
  let c4_i32_96 : BitVec 32 := 4#32
  let v130 : BitVec 32 := Scalar.muli v121 c4_i32_96
  let v131 : BitVec 32 := Scalar.addi c0_i32_97 v130
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_89 : BitVec 32 := 1#32
  let v122 : BitVec 32 := Scalar.addi v5 c1_i32_89
  let c2_i32_90 : BitVec 32 := 2#32
  let v123 : BitVec 32 := Scalar.muli c2_i32_90 v5
  let c1_i32_91 : BitVec 32 := 1#32
  let v124 : BitVec 32 := Scalar.muli v123 c1_i32_91
  let v125 : BitVec 32 := Scalar.subi v122 v124
  let c2_i32_98 : BitVec 32 := 2#32
  let v132 : BitVec 32 := Scalar.muli v125 c2_i32_98
  let v133 : BitVec 32 := Scalar.addi v131 v132
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_92 : BitVec 32 := 1#32
  let v126 : BitVec 32 := Scalar.addi v8 c1_i32_92
  let c2_i32_93 : BitVec 32 := 2#32
  let v127 : BitVec 32 := Scalar.muli c2_i32_93 v8
  let c1_i32_94 : BitVec 32 := 1#32
  let v128 : BitVec 32 := Scalar.muli v127 c1_i32_94
  let v129 : BitVec 32 := Scalar.subi v126 v128
  let c1_i32_99 : BitVec 32 := 1#32
  let v134 : BitVec 32 := Scalar.muli v129 c1_i32_99
  let v135 : BitVec 32 := Scalar.addi v133 v134
  v135.toNat
def k0_off1 (d0 : Dev nD) : Fin 2 → Nat :=
  let c2_i32_100 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v136 : BitVec 32 := Scalar.muli c2_i32_100 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v137 : BitVec 32 := Scalar.addi v136 v5
  let c128_i32 : BitVec 32 := 128#32
  let v138 : BitVec 32 := Scalar.muli v137 c128_i32
  let v144 : Index := Scalar.indexCast v138
  let c0 : Index := 0#32
  ![v144.toNat, 0]
def k0_off2 (d0 : Dev nD) : Fin 2 → Nat :=
  let c2_i32_100 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v136 : BitVec 32 := Scalar.muli c2_i32_100 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v137 : BitVec 32 := Scalar.addi v136 v5
  let c128_i32 : BitVec 32 := 128#32
  let v138 : BitVec 32 := Scalar.muli v137 c128_i32
  let v156 : Index := Scalar.indexCast v138
  let c128 : Index := 128#32
  ![v156.toNat, 128]
def k0_off3 (d0 : Dev nD) : Fin 2 → Nat :=
  let c2_i32_100 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v136 : BitVec 32 := Scalar.muli c2_i32_100 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v137 : BitVec 32 := Scalar.addi v136 v5
  let c128_i32 : BitVec 32 := 128#32
  let v138 : BitVec 32 := Scalar.muli v137 c128_i32
  let v168 : Index := Scalar.indexCast v138
  let c256 : Index := 256#32
  ![v168.toNat, 256]
def k0_off4 (d0 : Dev nD) : Fin 2 → Nat :=
  let c2_i32_100 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v136 : BitVec 32 := Scalar.muli c2_i32_100 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v137 : BitVec 32 := Scalar.addi v136 v5
  let c128_i32 : BitVec 32 := 128#32
  let v138 : BitVec 32 := Scalar.muli v137 c128_i32
  let v180 : Index := Scalar.indexCast v138
  let c384 : Index := 384#32
  ![v180.toNat, 384]
def k0_off5 (d0 : Dev nD) : Fin 2 → Nat :=
  let c2_i32_100 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v136 : BitVec 32 := Scalar.muli c2_i32_100 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v137 : BitVec 32 := Scalar.addi v136 v5
  let c128_i32 : BitVec 32 := 128#32
  let v138 : BitVec 32 := Scalar.muli v137 c128_i32
  let v192 : Index := Scalar.indexCast v138
  let c512 : Index := 512#32
  ![v192.toNat, 512]
def k0_off6 (d0 : Dev nD) : Fin 2 → Nat :=
  let c2_i32_100 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v136 : BitVec 32 := Scalar.muli c2_i32_100 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v137 : BitVec 32 := Scalar.addi v136 v5
  let c128_i32 : BitVec 32 := 128#32
  let v138 : BitVec 32 := Scalar.muli v137 c128_i32
  let v204 : Index := Scalar.indexCast v138
  let c640 : Index := 640#32
  ![v204.toNat, 640]
def k0_off7 (d0 : Dev nD) : Fin 2 → Nat :=
  let c2_i32_100 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v136 : BitVec 32 := Scalar.muli c2_i32_100 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v137 : BitVec 32 := Scalar.addi v136 v5
  let c128_i32 : BitVec 32 := 128#32
  let v138 : BitVec 32 := Scalar.muli v137 c128_i32
  let v216 : Index := Scalar.indexCast v138
  let c768 : Index := 768#32
  ![v216.toNat, 768]
def k0_off8 (d0 : Dev nD) : Fin 2 → Nat :=
  let c2_i32_100 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v136 : BitVec 32 := Scalar.muli c2_i32_100 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v137 : BitVec 32 := Scalar.addi v136 v5
  let c128_i32 : BitVec 32 := 128#32
  let v138 : BitVec 32 := Scalar.muli v137 c128_i32
  let v228 : Index := Scalar.indexCast v138
  let c896 : Index := 896#32
  ![v228.toNat, 896]
def k0_off9 (d0 : Dev nD) : Fin 2 → Nat :=
  let c2_i32_100 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v136 : BitVec 32 := Scalar.muli c2_i32_100 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v137 : BitVec 32 := Scalar.addi v136 v5
  let c128_i32 : BitVec 32 := 128#32
  let v138 : BitVec 32 := Scalar.muli v137 c128_i32
  let v240 : Index := Scalar.indexCast v138
  let c1024 : Index := 1024#32
  ![v240.toNat, 1024]
def k0_off10 (d0 : Dev nD) : Fin 2 → Nat :=
  let c2_i32_100 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v136 : BitVec 32 := Scalar.muli c2_i32_100 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v137 : BitVec 32 := Scalar.addi v136 v5
  let c128_i32 : BitVec 32 := 128#32
  let v138 : BitVec 32 := Scalar.muli v137 c128_i32
  let v252 : Index := Scalar.indexCast v138
  let c1152 : Index := 1152#32
  ![v252.toNat, 1152]
def k0_off11 (d0 : Dev nD) : Fin 2 → Nat :=
  let c2_i32_100 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v136 : BitVec 32 := Scalar.muli c2_i32_100 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v137 : BitVec 32 := Scalar.addi v136 v5
  let c128_i32 : BitVec 32 := 128#32
  let v138 : BitVec 32 := Scalar.muli v137 c128_i32
  let v264 : Index := Scalar.indexCast v138
  let c1280 : Index := 1280#32
  ![v264.toNat, 1280]
def k0_off12 (d0 : Dev nD) : Fin 2 → Nat :=
  let c2_i32_100 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v136 : BitVec 32 := Scalar.muli c2_i32_100 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v137 : BitVec 32 := Scalar.addi v136 v5
  let c128_i32 : BitVec 32 := 128#32
  let v138 : BitVec 32 := Scalar.muli v137 c128_i32
  let v276 : Index := Scalar.indexCast v138
  let c1408 : Index := 1408#32
  ![v276.toNat, 1408]
def k0_off13 (d0 : Dev nD) : Fin 2 → Nat :=
  let c2_i32_100 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v136 : BitVec 32 := Scalar.muli c2_i32_100 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v137 : BitVec 32 := Scalar.addi v136 v5
  let c128_i32 : BitVec 32 := 128#32
  let v138 : BitVec 32 := Scalar.muli v137 c128_i32
  let v288 : Index := Scalar.indexCast v138
  let c1536 : Index := 1536#32
  ![v288.toNat, 1536]
def k0_off14 (d0 : Dev nD) : Fin 2 → Nat :=
  let c2_i32_100 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v136 : BitVec 32 := Scalar.muli c2_i32_100 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v137 : BitVec 32 := Scalar.addi v136 v5
  let c128_i32 : BitVec 32 := 128#32
  let v138 : BitVec 32 := Scalar.muli v137 c128_i32
  let v300 : Index := Scalar.indexCast v138
  let c1664 : Index := 1664#32
  ![v300.toNat, 1664]
def k0_off15 (d0 : Dev nD) : Fin 2 → Nat :=
  let c2_i32_100 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v136 : BitVec 32 := Scalar.muli c2_i32_100 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v137 : BitVec 32 := Scalar.addi v136 v5
  let c128_i32 : BitVec 32 := 128#32
  let v138 : BitVec 32 := Scalar.muli v137 c128_i32
  let v312 : Index := Scalar.indexCast v138
  let c1792 : Index := 1792#32
  ![v312.toNat, 1792]
def k0_off16 (d0 : Dev nD) : Fin 2 → Nat :=
  let c2_i32_100 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v136 : BitVec 32 := Scalar.muli c2_i32_100 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v137 : BitVec 32 := Scalar.addi v136 v5
  let c128_i32 : BitVec 32 := 128#32
  let v138 : BitVec 32 := Scalar.muli v137 c128_i32
  let v324 : Index := Scalar.indexCast v138
  let c1920 : Index := 1920#32
  ![v324.toNat, 1920]
def k0_off17 (d0 : Dev nD) : Fin 2 → Nat :=
  let c2_i32_100 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v136 : BitVec 32 := Scalar.muli c2_i32_100 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v137 : BitVec 32 := Scalar.addi v136 v5
  let c128_i32 : BitVec 32 := 128#32
  let v138 : BitVec 32 := Scalar.muli v137 c128_i32
  let v336 : Index := Scalar.indexCast v138
  let c2048 : Index := 2048#32
  ![v336.toNat, 2048]
def k0_off18 (d0 : Dev nD) : Fin 2 → Nat :=
  let c2_i32_100 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v136 : BitVec 32 := Scalar.muli c2_i32_100 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v137 : BitVec 32 := Scalar.addi v136 v5
  let c128_i32 : BitVec 32 := 128#32
  let v138 : BitVec 32 := Scalar.muli v137 c128_i32
  let v348 : Index := Scalar.indexCast v138
  let c2176 : Index := 2176#32
  ![v348.toNat, 2176]
def k0_off19 (d0 : Dev nD) : Fin 2 → Nat :=
  let c2_i32_100 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v136 : BitVec 32 := Scalar.muli c2_i32_100 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v137 : BitVec 32 := Scalar.addi v136 v5
  let c128_i32 : BitVec 32 := 128#32
  let v138 : BitVec 32 := Scalar.muli v137 c128_i32
  let v360 : Index := Scalar.indexCast v138
  let c2304 : Index := 2304#32
  ![v360.toNat, 2304]
def k0_off20 (d0 : Dev nD) : Fin 2 → Nat :=
  let c2_i32_100 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v136 : BitVec 32 := Scalar.muli c2_i32_100 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v137 : BitVec 32 := Scalar.addi v136 v5
  let c128_i32 : BitVec 32 := 128#32
  let v138 : BitVec 32 := Scalar.muli v137 c128_i32
  let v372 : Index := Scalar.indexCast v138
  let c2432 : Index := 2432#32
  ![v372.toNat, 2432]
def k0_off21 (d0 : Dev nD) : Fin 2 → Nat :=
  let c2_i32_100 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v136 : BitVec 32 := Scalar.muli c2_i32_100 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v137 : BitVec 32 := Scalar.addi v136 v5
  let c128_i32 : BitVec 32 := 128#32
  let v138 : BitVec 32 := Scalar.muli v137 c128_i32
  let v384 : Index := Scalar.indexCast v138
  let c2560 : Index := 2560#32
  ![v384.toNat, 2560]
def k0_off22 (d0 : Dev nD) : Fin 2 → Nat :=
  let c2_i32_100 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v136 : BitVec 32 := Scalar.muli c2_i32_100 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v137 : BitVec 32 := Scalar.addi v136 v5
  let c128_i32 : BitVec 32 := 128#32
  let v138 : BitVec 32 := Scalar.muli v137 c128_i32
  let v396 : Index := Scalar.indexCast v138
  let c2688 : Index := 2688#32
  ![v396.toNat, 2688]
def k0_off23 (d0 : Dev nD) : Fin 2 → Nat :=
  let c2_i32_100 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v136 : BitVec 32 := Scalar.muli c2_i32_100 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v137 : BitVec 32 := Scalar.addi v136 v5
  let c128_i32 : BitVec 32 := 128#32
  let v138 : BitVec 32 := Scalar.muli v137 c128_i32
  let v408 : Index := Scalar.indexCast v138
  let c2816 : Index := 2816#32
  ![v408.toNat, 2816]
def k0_off24 (d0 : Dev nD) : Fin 2 → Nat :=
  let c2_i32_100 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v136 : BitVec 32 := Scalar.muli c2_i32_100 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v137 : BitVec 32 := Scalar.addi v136 v5
  let c128_i32 : BitVec 32 := 128#32
  let v138 : BitVec 32 := Scalar.muli v137 c128_i32
  let v420 : Index := Scalar.indexCast v138
  let c2944 : Index := 2944#32
  ![v420.toNat, 2944]
def k0_off25 (d0 : Dev nD) : Fin 2 → Nat :=
  let c2_i32_100 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v136 : BitVec 32 := Scalar.muli c2_i32_100 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v137 : BitVec 32 := Scalar.addi v136 v5
  let c128_i32 : BitVec 32 := 128#32
  let v138 : BitVec 32 := Scalar.muli v137 c128_i32
  let v432 : Index := Scalar.indexCast v138
  let c3072 : Index := 3072#32
  ![v432.toNat, 3072]
def k0_off26 (d0 : Dev nD) : Fin 2 → Nat :=
  let c2_i32_100 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v136 : BitVec 32 := Scalar.muli c2_i32_100 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v137 : BitVec 32 := Scalar.addi v136 v5
  let c128_i32 : BitVec 32 := 128#32
  let v138 : BitVec 32 := Scalar.muli v137 c128_i32
  let v444 : Index := Scalar.indexCast v138
  let c3200 : Index := 3200#32
  ![v444.toNat, 3200]
def k0_off27 (d0 : Dev nD) : Fin 2 → Nat :=
  let c2_i32_100 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v136 : BitVec 32 := Scalar.muli c2_i32_100 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v137 : BitVec 32 := Scalar.addi v136 v5
  let c128_i32 : BitVec 32 := 128#32
  let v138 : BitVec 32 := Scalar.muli v137 c128_i32
  let v456 : Index := Scalar.indexCast v138
  let c3328 : Index := 3328#32
  ![v456.toNat, 3328]
def k0_off28 (d0 : Dev nD) : Fin 2 → Nat :=
  let c2_i32_100 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v136 : BitVec 32 := Scalar.muli c2_i32_100 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v137 : BitVec 32 := Scalar.addi v136 v5
  let c128_i32 : BitVec 32 := 128#32
  let v138 : BitVec 32 := Scalar.muli v137 c128_i32
  let v468 : Index := Scalar.indexCast v138
  let c3456 : Index := 3456#32
  ![v468.toNat, 3456]
def k0_off29 (d0 : Dev nD) : Fin 2 → Nat :=
  let c2_i32_100 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v136 : BitVec 32 := Scalar.muli c2_i32_100 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v137 : BitVec 32 := Scalar.addi v136 v5
  let c128_i32 : BitVec 32 := 128#32
  let v138 : BitVec 32 := Scalar.muli v137 c128_i32
  let v480 : Index := Scalar.indexCast v138
  let c3584 : Index := 3584#32
  ![v480.toNat, 3584]
def k0_off30 (d0 : Dev nD) : Fin 2 → Nat :=
  let c2_i32_100 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v136 : BitVec 32 := Scalar.muli c2_i32_100 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v137 : BitVec 32 := Scalar.addi v136 v5
  let c128_i32 : BitVec 32 := 128#32
  let v138 : BitVec 32 := Scalar.muli v137 c128_i32
  let v492 : Index := Scalar.indexCast v138
  let c3712 : Index := 3712#32
  ![v492.toNat, 3712]
def k0_off31 (d0 : Dev nD) : Fin 2 → Nat :=
  let c2_i32_100 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v136 : BitVec 32 := Scalar.muli c2_i32_100 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v137 : BitVec 32 := Scalar.addi v136 v5
  let c128_i32 : BitVec 32 := 128#32
  let v138 : BitVec 32 := Scalar.muli v137 c128_i32
  let v504 : Index := Scalar.indexCast v138
  let c3840 : Index := 3840#32
  ![v504.toNat, 3840]
def k0_off32 (d0 : Dev nD) : Fin 2 → Nat :=
  let c2_i32_100 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v136 : BitVec 32 := Scalar.muli c2_i32_100 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v137 : BitVec 32 := Scalar.addi v136 v5
  let c128_i32 : BitVec 32 := 128#32
  let v138 : BitVec 32 := Scalar.muli v137 c128_i32
  let v516 : Index := Scalar.indexCast v138
  let c3968 : Index := 3968#32
  ![v516.toNat, 3968]
def k0_off33 (d0 : Dev nD) : Fin 4 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v625 : Index := Scalar.indexCast v8
  let c2_i32_100 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v136 : BitVec 32 := Scalar.muli c2_i32_100 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v137 : BitVec 32 := Scalar.addi v136 v5
  let v626 : Index := Scalar.indexCast v137
  let c0_137 : Index := 0#32
  let c0_138 : Index := 0#32
  ![v625.toNat, v626.toNat, 0, 0]
def k0_off34 (d0 : Dev nD) : Fin 4 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c2_i32_100 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v136 : BitVec 32 := Scalar.muli c2_i32_100 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v137 : BitVec 32 := Scalar.addi v136 v5
  let c0_i32_154 : BitVec 32 := 0#32
  let c0_i32_155 : BitVec 32 := 0#32
  ![v8.toNat, v137.toNat, 0, 0]
def k0_dev8 (d0 : Dev nD) : Nat :=
  let c0_i32_151 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_139 : BitVec 32 := 0#32
  let v630 : BitVec 32 := Scalar.addi v2 c0_i32_139
  let c2_i32_140 : BitVec 32 := 2#32
  let v631 : BitVec 32 := Scalar.muli c2_i32_140 v2
  let c0_i32_141 : BitVec 32 := 0#32
  let v632 : BitVec 32 := Scalar.muli v631 c0_i32_141
  let v633 : BitVec 32 := Scalar.subi v630 v632
  let c4_i32_150 : BitVec 32 := 4#32
  let v642 : BitVec 32 := Scalar.muli v633 c4_i32_150
  let v643 : BitVec 32 := Scalar.addi c0_i32_151 v642
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_142 : BitVec 32 := 0#32
  let v634 : BitVec 32 := Scalar.addi v5 c0_i32_142
  let c2_i32_143 : BitVec 32 := 2#32
  let v635 : BitVec 32 := Scalar.muli c2_i32_143 v5
  let c0_i32_144 : BitVec 32 := 0#32
  let v636 : BitVec 32 := Scalar.muli v635 c0_i32_144
  let v637 : BitVec 32 := Scalar.subi v634 v636
  let c2_i32_152 : BitVec 32 := 2#32
  let v644 : BitVec 32 := Scalar.muli v637 c2_i32_152
  let v645 : BitVec 32 := Scalar.addi v643 v644
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_145 : BitVec 32 := 1#32
  let v638 : BitVec 32 := Scalar.addi v8 c1_i32_145
  let c2_i32_146 : BitVec 32 := 2#32
  let v639 : BitVec 32 := Scalar.muli c2_i32_146 v8
  let c1_i32_147 : BitVec 32 := 1#32
  let v640 : BitVec 32 := Scalar.muli v639 c1_i32_147
  let v641 : BitVec 32 := Scalar.subi v638 v640
  let c1_i32_153 : BitVec 32 := 1#32
  let v646 : BitVec 32 := Scalar.muli v641 c1_i32_153
  let v647 : BitVec 32 := Scalar.addi v645 v646
  v647.toNat
def k0_dev9 (d0 : Dev nD) : Nat :=
  let c0_i32_170 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_158 : BitVec 32 := 0#32
  let v656 : BitVec 32 := Scalar.addi v2 c0_i32_158
  let c2_i32_159 : BitVec 32 := 2#32
  let v657 : BitVec 32 := Scalar.muli c2_i32_159 v2
  let c0_i32_160 : BitVec 32 := 0#32
  let v658 : BitVec 32 := Scalar.muli v657 c0_i32_160
  let v659 : BitVec 32 := Scalar.subi v656 v658
  let c4_i32_169 : BitVec 32 := 4#32
  let v668 : BitVec 32 := Scalar.muli v659 c4_i32_169
  let v669 : BitVec 32 := Scalar.addi c0_i32_170 v668
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_161 : BitVec 32 := 1#32
  let v660 : BitVec 32 := Scalar.addi v5 c1_i32_161
  let c2_i32_162 : BitVec 32 := 2#32
  let v661 : BitVec 32 := Scalar.muli c2_i32_162 v5
  let c1_i32_163 : BitVec 32 := 1#32
  let v662 : BitVec 32 := Scalar.muli v661 c1_i32_163
  let v663 : BitVec 32 := Scalar.subi v660 v662
  let c2_i32_171 : BitVec 32 := 2#32
  let v670 : BitVec 32 := Scalar.muli v663 c2_i32_171
  let v671 : BitVec 32 := Scalar.addi v669 v670
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_164 : BitVec 32 := 0#32
  let v664 : BitVec 32 := Scalar.addi v8 c0_i32_164
  let c2_i32_165 : BitVec 32 := 2#32
  let v665 : BitVec 32 := Scalar.muli c2_i32_165 v8
  let c0_i32_166 : BitVec 32 := 0#32
  let v666 : BitVec 32 := Scalar.muli v665 c0_i32_166
  let v667 : BitVec 32 := Scalar.subi v664 v666
  let c1_i32_172 : BitVec 32 := 1#32
  let v672 : BitVec 32 := Scalar.muli v667 c1_i32_172
  let v673 : BitVec 32 := Scalar.addi v671 v672
  v673.toNat
def k0_dev10 (d0 : Dev nD) : Nat :=
  let c0_i32_189 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_177 : BitVec 32 := 0#32
  let v682 : BitVec 32 := Scalar.addi v2 c0_i32_177
  let c2_i32_178 : BitVec 32 := 2#32
  let v683 : BitVec 32 := Scalar.muli c2_i32_178 v2
  let c0_i32_179 : BitVec 32 := 0#32
  let v684 : BitVec 32 := Scalar.muli v683 c0_i32_179
  let v685 : BitVec 32 := Scalar.subi v682 v684
  let c4_i32_188 : BitVec 32 := 4#32
  let v694 : BitVec 32 := Scalar.muli v685 c4_i32_188
  let v695 : BitVec 32 := Scalar.addi c0_i32_189 v694
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_180 : BitVec 32 := 1#32
  let v686 : BitVec 32 := Scalar.addi v5 c1_i32_180
  let c2_i32_181 : BitVec 32 := 2#32
  let v687 : BitVec 32 := Scalar.muli c2_i32_181 v5
  let c1_i32_182 : BitVec 32 := 1#32
  let v688 : BitVec 32 := Scalar.muli v687 c1_i32_182
  let v689 : BitVec 32 := Scalar.subi v686 v688
  let c2_i32_190 : BitVec 32 := 2#32
  let v696 : BitVec 32 := Scalar.muli v689 c2_i32_190
  let v697 : BitVec 32 := Scalar.addi v695 v696
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_183 : BitVec 32 := 1#32
  let v690 : BitVec 32 := Scalar.addi v8 c1_i32_183
  let c2_i32_184 : BitVec 32 := 2#32
  let v691 : BitVec 32 := Scalar.muli c2_i32_184 v8
  let c1_i32_185 : BitVec 32 := 1#32
  let v692 : BitVec 32 := Scalar.muli v691 c1_i32_185
  let v693 : BitVec 32 := Scalar.subi v690 v692
  let c1_i32_191 : BitVec 32 := 1#32
  let v698 : BitVec 32 := Scalar.muli v693 c1_i32_191
  let v699 : BitVec 32 := Scalar.addi v697 v698
  v699.toNat
def k0_dev11 (d0 : Dev nD) : Nat :=
  let c0_i32_207 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_196 : BitVec 32 := 1#32
  let v708 : BitVec 32 := Scalar.addi v2 c1_i32_196
  let c2_i32_197 : BitVec 32 := 2#32
  let v709 : BitVec 32 := Scalar.muli c2_i32_197 v2
  let c1_i32_198 : BitVec 32 := 1#32
  let v710 : BitVec 32 := Scalar.muli v709 c1_i32_198
  let v711 : BitVec 32 := Scalar.subi v708 v710
  let c4_i32_206 : BitVec 32 := 4#32
  let v720 : BitVec 32 := Scalar.muli v711 c4_i32_206
  let v721 : BitVec 32 := Scalar.addi c0_i32_207 v720
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_199 : BitVec 32 := 0#32
  let v712 : BitVec 32 := Scalar.addi v5 c0_i32_199
  let c2_i32_200 : BitVec 32 := 2#32
  let v713 : BitVec 32 := Scalar.muli c2_i32_200 v5
  let c0_i32_201 : BitVec 32 := 0#32
  let v714 : BitVec 32 := Scalar.muli v713 c0_i32_201
  let v715 : BitVec 32 := Scalar.subi v712 v714
  let c2_i32_208 : BitVec 32 := 2#32
  let v722 : BitVec 32 := Scalar.muli v715 c2_i32_208
  let v723 : BitVec 32 := Scalar.addi v721 v722
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_202 : BitVec 32 := 0#32
  let v716 : BitVec 32 := Scalar.addi v8 c0_i32_202
  let c2_i32_203 : BitVec 32 := 2#32
  let v717 : BitVec 32 := Scalar.muli c2_i32_203 v8
  let c0_i32_204 : BitVec 32 := 0#32
  let v718 : BitVec 32 := Scalar.muli v717 c0_i32_204
  let v719 : BitVec 32 := Scalar.subi v716 v718
  let c1_i32_209 : BitVec 32 := 1#32
  let v724 : BitVec 32 := Scalar.muli v719 c1_i32_209
  let v725 : BitVec 32 := Scalar.addi v723 v724
  v725.toNat
def k0_dev12 (d0 : Dev nD) : Nat :=
  let c0_i32_226 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_214 : BitVec 32 := 1#32
  let v734 : BitVec 32 := Scalar.addi v2 c1_i32_214
  let c2_i32_215 : BitVec 32 := 2#32
  let v735 : BitVec 32 := Scalar.muli c2_i32_215 v2
  let c1_i32_216 : BitVec 32 := 1#32
  let v736 : BitVec 32 := Scalar.muli v735 c1_i32_216
  let v737 : BitVec 32 := Scalar.subi v734 v736
  let c4_i32_225 : BitVec 32 := 4#32
  let v746 : BitVec 32 := Scalar.muli v737 c4_i32_225
  let v747 : BitVec 32 := Scalar.addi c0_i32_226 v746
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_217 : BitVec 32 := 0#32
  let v738 : BitVec 32 := Scalar.addi v5 c0_i32_217
  let c2_i32_218 : BitVec 32 := 2#32
  let v739 : BitVec 32 := Scalar.muli c2_i32_218 v5
  let c0_i32_219 : BitVec 32 := 0#32
  let v740 : BitVec 32 := Scalar.muli v739 c0_i32_219
  let v741 : BitVec 32 := Scalar.subi v738 v740
  let c2_i32_227 : BitVec 32 := 2#32
  let v748 : BitVec 32 := Scalar.muli v741 c2_i32_227
  let v749 : BitVec 32 := Scalar.addi v747 v748
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_220 : BitVec 32 := 1#32
  let v742 : BitVec 32 := Scalar.addi v8 c1_i32_220
  let c2_i32_221 : BitVec 32 := 2#32
  let v743 : BitVec 32 := Scalar.muli c2_i32_221 v8
  let c1_i32_222 : BitVec 32 := 1#32
  let v744 : BitVec 32 := Scalar.muli v743 c1_i32_222
  let v745 : BitVec 32 := Scalar.subi v742 v744
  let c1_i32_228 : BitVec 32 := 1#32
  let v750 : BitVec 32 := Scalar.muli v745 c1_i32_228
  let v751 : BitVec 32 := Scalar.addi v749 v750
  v751.toNat
def k0_dev13 (d0 : Dev nD) : Nat :=
  let c0_i32_244 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_233 : BitVec 32 := 1#32
  let v760 : BitVec 32 := Scalar.addi v2 c1_i32_233
  let c2_i32_234 : BitVec 32 := 2#32
  let v761 : BitVec 32 := Scalar.muli c2_i32_234 v2
  let c1_i32_235 : BitVec 32 := 1#32
  let v762 : BitVec 32 := Scalar.muli v761 c1_i32_235
  let v763 : BitVec 32 := Scalar.subi v760 v762
  let c4_i32_243 : BitVec 32 := 4#32
  let v772 : BitVec 32 := Scalar.muli v763 c4_i32_243
  let v773 : BitVec 32 := Scalar.addi c0_i32_244 v772
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_236 : BitVec 32 := 1#32
  let v764 : BitVec 32 := Scalar.addi v5 c1_i32_236
  let c2_i32_237 : BitVec 32 := 2#32
  let v765 : BitVec 32 := Scalar.muli c2_i32_237 v5
  let c1_i32_238 : BitVec 32 := 1#32
  let v766 : BitVec 32 := Scalar.muli v765 c1_i32_238
  let v767 : BitVec 32 := Scalar.subi v764 v766
  let c2_i32_245 : BitVec 32 := 2#32
  let v774 : BitVec 32 := Scalar.muli v767 c2_i32_245
  let v775 : BitVec 32 := Scalar.addi v773 v774
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_239 : BitVec 32 := 0#32
  let v768 : BitVec 32 := Scalar.addi v8 c0_i32_239
  let c2_i32_240 : BitVec 32 := 2#32
  let v769 : BitVec 32 := Scalar.muli c2_i32_240 v8
  let c0_i32_241 : BitVec 32 := 0#32
  let v770 : BitVec 32 := Scalar.muli v769 c0_i32_241
  let v771 : BitVec 32 := Scalar.subi v768 v770
  let c1_i32_246 : BitVec 32 := 1#32
  let v776 : BitVec 32 := Scalar.muli v771 c1_i32_246
  let v777 : BitVec 32 := Scalar.addi v775 v776
  v777.toNat
def k0_dev14 (d0 : Dev nD) : Nat :=
  let c0_i32_262 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_251 : BitVec 32 := 1#32
  let v786 : BitVec 32 := Scalar.addi v2 c1_i32_251
  let c2_i32_252 : BitVec 32 := 2#32
  let v787 : BitVec 32 := Scalar.muli c2_i32_252 v2
  let c1_i32_253 : BitVec 32 := 1#32
  let v788 : BitVec 32 := Scalar.muli v787 c1_i32_253
  let v789 : BitVec 32 := Scalar.subi v786 v788
  let c4_i32_261 : BitVec 32 := 4#32
  let v798 : BitVec 32 := Scalar.muli v789 c4_i32_261
  let v799 : BitVec 32 := Scalar.addi c0_i32_262 v798
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_254 : BitVec 32 := 1#32
  let v790 : BitVec 32 := Scalar.addi v5 c1_i32_254
  let c2_i32_255 : BitVec 32 := 2#32
  let v791 : BitVec 32 := Scalar.muli c2_i32_255 v5
  let c1_i32_256 : BitVec 32 := 1#32
  let v792 : BitVec 32 := Scalar.muli v791 c1_i32_256
  let v793 : BitVec 32 := Scalar.subi v790 v792
  let c2_i32_263 : BitVec 32 := 2#32
  let v800 : BitVec 32 := Scalar.muli v793 c2_i32_263
  let v801 : BitVec 32 := Scalar.addi v799 v800
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_257 : BitVec 32 := 1#32
  let v794 : BitVec 32 := Scalar.addi v8 c1_i32_257
  let c2_i32_258 : BitVec 32 := 2#32
  let v795 : BitVec 32 := Scalar.muli c2_i32_258 v8
  let c1_i32_259 : BitVec 32 := 1#32
  let v796 : BitVec 32 := Scalar.muli v795 c1_i32_259
  let v797 : BitVec 32 := Scalar.subi v794 v796
  let c1_i32_264 : BitVec 32 := 1#32
  let v802 : BitVec 32 := Scalar.muli v797 c1_i32_264
  let v803 : BitVec 32 := Scalar.addi v801 v802
  v803.toNat
abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S512x8192 : Shape := ⟨2, ![512, 8192]⟩
abbrev S512x16 : Shape := ⟨2, ![512, 16]⟩
abbrev S_ : Shape := ⟨0, ![]⟩
abbrev S512x16x1 : Shape := ⟨3, ![512, 16, 1]⟩
abbrev S1 : Shape := ⟨1, ![1]⟩
abbrev S1x1x1 : Shape := ⟨3, ![1, 1, 1]⟩

abbrev nBuf : Space → Nat
  | .hbm => 28
  | .vmem => 0
  | .smem => 0
  | _ => 0

abbrev bufTy : (tb : Table) → Fin (tcTables nBuf tb) → BufTy
  | .hbm, ⟨0, _⟩ => ⟨S512x8192, .f32⟩
  | .hbm, ⟨1, _⟩ => ⟨S512x8192, .f32⟩
  | .hbm, ⟨2, _⟩ => ⟨S512x8192, .i32⟩
  | .hbm, ⟨3, _⟩ => ⟨S512x8192, .f32⟩
  | .hbm, ⟨4, _⟩ => ⟨S512x8192, .i32⟩
  | .hbm, ⟨5, _⟩ => ⟨S512x16, .i32⟩
  | .hbm, ⟨6, _⟩ => ⟨S_, .i32⟩
  | .hbm, ⟨7, _⟩ => ⟨S512x16, .i32⟩
  | .hbm, ⟨8, _⟩ => ⟨S512x16, .i1⟩
  | .hbm, ⟨9, _⟩ => ⟨S_, .i32⟩
  | .hbm, ⟨10, _⟩ => ⟨S512x16, .i32⟩
  | .hbm, ⟨11, _⟩ => ⟨S512x16, .i32⟩
  | .hbm, ⟨12, _⟩ => ⟨S512x16, .i32⟩
  | .hbm, ⟨13, _⟩ => ⟨S512x16x1, .i32⟩
  | .hbm, ⟨14, _⟩ => ⟨S1, .i32⟩
  | .hbm, ⟨15, _⟩ => ⟨S_, .i32⟩
  | .hbm, ⟨16, _⟩ => ⟨S512x16x1, .i32⟩
  | .hbm, ⟨17, _⟩ => ⟨S512x16x1, .i1⟩
  | .hbm, ⟨18, _⟩ => ⟨S1x1x1, .i32⟩
  | .hbm, ⟨19, _⟩ => ⟨S512x16x1, .i32⟩
  | .hbm, ⟨20, _⟩ => ⟨S512x16x1, .i1⟩
  | .hbm, ⟨21, _⟩ => ⟨S512x16x1, .i1⟩
  | .hbm, ⟨22, _⟩ => ⟨S_, .i1⟩
  | .hbm, ⟨23, _⟩ => ⟨S512x16, .i1⟩
  | .hbm, ⟨24, _⟩ => ⟨S512x16, .f32⟩
  | .hbm, ⟨25, _⟩ => ⟨S_, .f32⟩
  | .hbm, ⟨26, _⟩ => ⟨S512x16, .f32⟩
  | .hbm, ⟨27, _⟩ => ⟨S512x16, .f32⟩
  | _, _ => ⟨S512x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_v0 : Ref sig .tc := ⟨.hbm, 2, rfl⟩
abbrev main_call0_v1_0 : Ref sig .tc := ⟨.hbm, 3, rfl⟩
abbrev main_v1 : Ref sig .tc := ⟨.hbm, 4, rfl⟩
abbrev main_v2 : Ref sig .tc := ⟨.hbm, 5, rfl⟩
abbrev main_call1_c : Ref sig .tc := ⟨.hbm, 6, rfl⟩
abbrev main_call1_v0 : Ref sig .tc := ⟨.hbm, 7, rfl⟩
abbrev main_call1_v1 : Ref sig .tc := ⟨.hbm, 8, rfl⟩
abbrev main_call1_c_0 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_call1_v5 : Ref sig .tc := ⟨.hbm, 13, rfl⟩
abbrev main_call1_c_1 : Ref sig .tc := ⟨.hbm, 14, rfl⟩
abbrev main_call1_c_2 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_v9 : Ref sig .tc := ⟨.hbm, 19, rfl⟩
abbrev main_call1_v10 : Ref sig .tc := ⟨.hbm, 20, rfl⟩
abbrev main_call1_v11 : Ref sig .tc := ⟨.hbm, 21, rfl⟩
abbrev main_call1_c_3 : Ref sig .tc := ⟨.hbm, 22, rfl⟩
abbrev main_call1_v12 : Ref sig .tc := ⟨.hbm, 23, rfl⟩
abbrev main_call1_v13 : Ref sig .tc := ⟨.hbm, 24, rfl⟩
abbrev main_call1_cst : Ref sig .tc := ⟨.hbm, 25, rfl⟩
abbrev main_call1_v14 : Ref sig .tc := ⟨.hbm, 26, rfl⟩
abbrev main_v3 : Ref sig .tc := ⟨.hbm, 27, rfl⟩

abbrev nD : Nat := 1
abbrev τ : Topo := Topo.v7x

variable {F : FTy → Type} [FloatOps F]
-- ==== Proof.Protocol.lean ====
/-
# The exchange: cells, schedule, levels

Eight devices each hold one slot of candidates and copy it to the seven others. A device's scratch has eight slots, one per
device; device `d` writes slot `d` of its own scratch and of every other device's. Before it copies, a device waits until
all seven peers have signalled its barrier: each signal hands over the peer's copy of the device's slot.

The cells of one device: the barrier (a regular semaphore) and fourteen transfer semaphores, one for sending to and one for
receiving from each of the seven peers. All are used for one round. The barrier's round has seven duties of one unit, one per
peer; a transfer semaphore's round has one duty, the credit of a slot.

Everything is said of contents `G` of the scratch which all devices come to share, and for any float values `F`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The exchange's rounds, its duties named by the peer that pays them. -/
abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## Peers -/

set_option backward.proofsInPublic true in
/-- The peer of device `c` that differs from it in the bits of `k + 1`. -/
def peer (k : Fin 7) (c : Dev nD) : Dev nD :=
  ⟨c.val ^^^ (k.val + 1), by have : ∀ (k : Fin 7) (c : Fin 8), c.val ^^^ (k.val + 1) < 8 := by decide
                             exact this k c⟩

theorem peer_peer (k : Fin 7) (c : Dev nD) : peer k (peer k c) = c := by revert k c; decide
theorem peer_ne (k : Fin 7) (c : Dev nD) : peer k c ≠ c := by revert k c; decide
theorem peer_inj {c : Dev nD} {k k' : Fin 7} (h : peer k c = peer k' c) : k = k' := by revert k k' c; decide

/-- Being the `k`-th peer is mutual. -/
def peerEquiv (k : Fin 7) : Dev nD ≃ Dev nD := ⟨peer k, peer k, peer_peer k, peer_peer k⟩

/-- Every device is `c` or one of its peers. -/
theorem univ_eq (c : Dev nD) : (Finset.univ : Finset (Dev nD)) = insert c (Finset.univ.map ⟨fun k => peer k c, fun _ _ h => peer_inj h⟩) := by
  revert c; decide

/-! ## Semaphores and cells -/

abbrev barS : Sem sig := (SemArray.scalar (sig.barrier 0 rfl) : Sems sig S_).sem

set_option backward.proofsInPublic true in
/-- The transfer semaphores in the order the kernel waits on them: sending to peer `k` is `2 k`, receiving from it `2 k + 1`. -/
def dS (j : Fin 14) : DmaSem sig := ⟨if j.val % 2 = 0 then 2 + j.val / 2 else 9 + j.val / 2, by
  have : ∀ j : Fin 14, (if j.val % 2 = 0 then 2 + j.val / 2 else 9 + j.val / 2) < 16 := by decide
  exact this j⟩

set_option backward.proofsInPublic true in
/-- The position of a transfer semaphore in that order, if it is one. -/
def jOf (q : DmaSem sig) : Option (Fin 14) :=
  if h : 2 ≤ q.val ∧ q.val < 9 then some ⟨2 * (q.val - 2), by omega⟩
  else if h : 9 ≤ q.val ∧ q.val < 16 then some ⟨2 * (q.val - 9) + 1, by omega⟩ else none

theorem jOf_dS (j : Fin 14) : jOf (dS j) = some j := by revert j; decide

set_option backward.proofsInPublic true in
/-- Sending to peer `k`, receiving from peer `k`. -/
def jS (k : Fin 7) : Fin 14 := ⟨2 * k.val, by omega⟩
set_option backward.proofsInPublic true in
def jR (k : Fin 7) : Fin 14 := ⟨2 * k.val + 1, by omega⟩
set_option backward.proofsInPublic true in
def kOf (j : Fin 14) : Fin 7 := ⟨j.val / 2, by omega⟩

theorem jR_inj {k k' : Fin 7} (h : jR k = jR k') : k = k' := by revert k k'; decide

abbrev barCell (c : Dev nD) : GSem nD τ sig := ((c : Thread nD τ), .reg barS)
abbrev dCell (c : Dev nD) (j : Fin 14) : GSem nD τ sig := ((c : Thread nD τ), .dma (dS j))

/-- A device's cells: the barrier and the fourteen transfers. -/
abbrev csem : Option (Fin 14) → SemLoc sig | none => .reg barS | some j => .dma (dS j)
abbrev kcell (ck : Dev nD × Option (Fin 14)) : GSem nD τ sig := ((ck.1 : Thread nD τ), csem ck.2)

/-! ## Slots -/

abbrev scrM : Memref sig .tc .vmem S2x4x128x16 .f32 := Memref.whole cc0_scratch0

/-- The slot of device `d`, as the transfers name it. -/
abbrev slotM (d : Dev nD) : Memref sig .tc .vmem S128x16 .f32 :=
  ((scrM).slice (Rect.unit (s := S2x4x128x16) (k0_off34 d) S1x1x128x16.size (k0_off34_inb d)) (fun _ => rfl)).squeeze S128x16 squeezes_S1x1x128x16_S128x16

abbrev Contents (F : FTy → Type) : Type := (cc0_scratch0 : Ref sig .tc).ty.Contents (Elt F)

/-- Device `d`'s slot of device `c`'s scratch, at share `q`. -/
def slotPts (c d : Dev nD) (q : PosShare TreeShare) (f : Contents F) : sProp 𝕄 :=
  (slotM d).view.loc (c : Thread nD τ) ↦[(slotM d).view.set]{q} f

instance slotPts_storable (c d : Dev nD) (q) (f : Contents F) : BI.Storable (upEmb : UEmb _ 𝕄) (slotPts (F := F) c d q f) := by
  unfold slotPts; infer_instance

omit [FloatOps F] in
/-- The elements of slot `d`: those whose first two coordinates are the device's. -/
theorem slot_mem (d : Dev nD) (i : S2x4x128x16.Idx) :
    Iff (i ∈ (slotM d).view.set) ((i 0).val = d.val % 2 ∧ (i 1).val = d.val / 2) := by
  rw [Memref.set_view_squeeze, show ((scrM).slice (Rect.unit (s := S2x4x128x16) (k0_off34 d) S1x1x128x16.size (k0_off34_inb d)) (fun _ => rfl)).view.set
    = (Rect.unit (s := S2x4x128x16) (k0_off34 d) S1x1x128x16.size (k0_off34_inb d)).set from View.set_slice_whole _ _, Rect.mem_set_unit, k0_off34_eq]
  have hd : 2 * (d.val / 4) + d.val / 2 % 2 = d.val / 2 := by omega
  have h2 : (i 2).val < 128 := (i 2).isLt
  have h3 : (i 3).val < 16 := (i 3).isLt
  constructor
  · intro h
    have a0 := h 0
    have a1 := h 1
    simp at a0 a1
    constructor <;> omega
  · rintro ⟨e0, e1⟩ a
    fin_cases a <;> simp <;> omega

theorem slot_disjoint {d d' : Dev nD} (h : d ≠ d') : Disjoint (slotM d).view.set (slotM d').view.set := by
  rw [Finset.disjoint_left]
  intro i hi hi'
  have h1 := (slot_mem d i).mp hi
  have h2 := (slot_mem d' i).mp hi'
  exact h (Fin.ext (by omega))

theorem slot_cover : (Finset.univ.biUnion fun d : Dev nD => (slotM d).view.set) = (Finset.univ : Finset S2x4x128x16.Idx) := by
  refine Finset.eq_univ_iff_forall.mpr fun i => Finset.mem_biUnion.mpr ?_
  have h0 : (i 0).val < 2 := (i 0).isLt
  have h1 : (i 1).val < 4 := (i 1).isLt
  let d : Fin 8 := ⟨2 * (i 1).val + (i 0).val, by omega⟩
  have hd : d.val = 2 * (i 1).val + (i 0).val := rfl
  exact ⟨d, Finset.mem_univ _, (slot_mem d i).mpr ⟨by rw [hd]; omega, by rw [hd]; omega⟩⟩

/-- The whole scratch at `f` is the device's own slot and its seven peers'. -/
theorem scr_slots (c : Dev nD) (f : Contents F) :
    (((c : Thread nD τ).loc cc0_scratch0) ↦{fullShare} f : sProp 𝕄)
      = iprop(slotPts c c fullShare f ∗ bigSep Finset.univ fun k : Fin 7 => slotPts c (peer k c) fullShare f) := by
  have h := pointsTo_biUnion (Ix := Unit) (Name := ℕ) (U := UU) (Lvl := ℕ) (τ := τ) (Val := Elt F) (ℓ := (c : Thread nD τ).loc cc0_scratch0) (q := fullShare) (f := f)
    (Finset.univ : Finset (Dev nD)) (fun d => (slotM d).view.set) (fun d _ d' _ hne => slot_disjoint hne)
  rw [show (Finset.univ.biUnion fun d : Dev nD => (slotM d).view.set) = (Finset.univ : Finset (Idx ((c : Thread nD τ).loc cc0_scratch0))) from slot_cover] at h
  refine h.trans ?_
  rw [univ_eq c, bigSep_insert (by
    intro hm
    obtain ⟨k, -, hk⟩ := Finset.mem_map.mp hm
    exact peer_ne k c hk), bigSep_map]
  rfl

/-! ## The schedule -/

/-- The credit of one slot. -/
abbrev N : ℕ := (slotM (0 : Fin 8)).view.dmaCredit
theorem N_pos : 0 < N := View.dmaCredit_pos _ (by decide)
theorem N_eq (d : Dev nD) : (slotM d).view.dmaCredit = N := rfl

/-- The share of its own slot a device reads for the transfer to peer `k`, and what it keeps while the first `n` are under way. -/
def tail : ℕ → PosShare TreeShare | 0 => fullShare | n + 1 => (tail n).right
def sh (n : ℕ) : PosShare TreeShare := (tail n).left

variable (G : Contents F)

/-- Peer `k`'s signal hands device `c` the peer's copy of `c`'s slot. -/
def barPay (c : Dev nD) (k : Fin 7) : sProp 𝕄 := iprop(∃ f : Contents F, slotPts (peer k c) c fullShare f)
/-- A finished send gives the device's own slot back, at the share read; a finished receive the peer's slot, filled. -/
def dPay (c : Dev nD) (j : Fin 14) : sProp 𝕄 :=
  if j.val % 2 = 0 then slotPts c c (sh (kOf j).val) G else slotPts c (peer (kOf j) c) fullShare G

theorem dPay_send (c : Dev nD) (k : Fin 7) : dPay G c (jS k) = slotPts c c (sh k.val) G := by
  unfold dPay
  rw [if_pos (show (jS k).val % 2 = 0 by show (2 * k.val) % 2 = 0; omega), show kOf (jS k) = k from Fin.ext (by show 2 * k.val / 2 = _; omega)]
theorem dPay_recv (c : Dev nD) (k : Fin 7) : dPay G c (jR k) = slotPts c (peer k c) fullShare G := by
  unfold dPay
  rw [if_neg (show ¬ (jR k).val % 2 = 0 by show ¬ (2 * k.val + 1) % 2 = 0; omega), show kOf (jR k) = k from Fin.ext (by show (2 * k.val + 1) / 2 = _; omega)]

instance barPay_storable (c : Dev nD) (k : Fin 7) : BI.Storable (upEmb : UEmb _ 𝕄) (barPay (F := F) c k) := by unfold barPay; infer_instance
instance dPay_storable (c : Dev nD) (j : Fin 14) : BI.Storable (upEmb : UEmb _ 𝕄) (dPay G c j) := by unfold dPay; split <;> infer_instance

/-- What a semaphore's duty `d` of round 0 pays on device `c`. -/
def pay (c : Dev nD) (d : Fin 7) : SemLoc sig → sProp 𝕄
  | .reg _ => barPay c d
  | .dma q => match jOf q with | some j => dPay G c j | none => iprop(emp)

/-- A semaphore's duties of round 0. -/
def dut : SemLoc sig → Finset (Fin 7)
  | .reg s => if s = barS then Finset.univ else ∅
  | .dma q => if (jOf q).isSome then {0} else ∅

def sched : Rounds.Schedule (GSem nD τ sig) (Fin 7) 𝕄 where
  duties g r := if r = 0 ∧ g.1.2 = .tc then dut g.2 else ∅
  unitless _ := False
  amount g _ _ := match g.2 with | .reg _ => 1 | .dma _ => N
  payload g _ d := pay G g.1.1 d g.2
  amount_pos g _ _ _ := by
    rcases g with ⟨_, _ | _⟩
    · exact Nat.one_pos
    · exact N_pos

instance sched_storable (g : GSem nD τ sig) (r : ℕ) (d : Fin 7) : BI.Storable (upEmb : UEmb _ 𝕄) ((sched (F := F) G).payload g r d) := by
  show BI.Storable upEmb (pay G g.1.1 d g.2)
  unfold pay
  split
  · infer_instance
  · split <;> infer_instance

section Sched
variable (c : Dev nD) (j : Fin 14)

theorem duties_bar : (sched G).duties (barCell c) 0 = Finset.univ := by
  dsimp only [sched]; rw [if_pos ⟨rfl, rfl⟩]; simp only [dut, if_pos]
theorem duties_d : (sched G).duties (dCell c j) 0 = {0} := by
  dsimp only [sched]; rw [if_pos ⟨rfl, rfl⟩]; simp only [dut, jOf_dS]; rfl
theorem duties_later (g : GSem nD τ sig) : ∀ r, 1 ≤ r → (sched G).duties g r = ∅ :=
  fun r hr => by dsimp only [sched]; rw [if_neg fun h => by omega]
theorem amount_bar (d : Fin 7) : (sched G).amount (barCell c) 0 d = 1 := rfl
theorem amount_d (d : Fin 7) : (sched G).amount (dCell c j) 0 d = N := rfl
theorem expect_bar : (sched G).expect (barCell c) 0 = 7 := by
  unfold Schedule.expect Schedule.amountOf
  rw [duties_bar, Finset.sum_congr rfl fun d _ => amount_bar G c d, Finset.sum_const, Finset.card_univ, Fintype.card_fin, smul_eq_mul]
theorem expect_d : (sched G).expect (dCell c j) 0 = N := by
  unfold Schedule.expect Schedule.amountOf; rw [duties_d, Finset.sum_singleton, amount_d]
theorem payload_bar (d : Fin 7) : (sched G).payload (barCell c) 0 d = barPay c d := rfl
theorem payload_d (d : Fin 7) : (sched G).payload (dCell c j) 0 d = dPay G c j := by
  show pay G c d (.dma (dS j)) = _
  unfold pay; simp only [jOf_dS]
theorem rest_bar : bigSep ((sched G).duties (barCell c) 0 \ ∅) (fun d => (sched G).payload (barCell c) 0 d) = bigSep Finset.univ fun k => barPay c k := by
  rw [Finset.sdiff_empty, duties_bar]; rfl
theorem rest_d : bigSep ((sched G).duties (dCell c j) 0 \ ∅) (fun d => (sched G).payload (dCell c j) 0 d) = dPay G c j := by
  rw [Finset.sdiff_empty, duties_d, bigSep_singleton, payload_d]

end Sched

/-! ## What a device owes; the levels -/

/-- The positions from `n` on, and those before. -/
def from_ {m : ℕ} (n : ℕ) : Finset (Fin m) := Finset.univ.filter fun k => n ≤ k.val
def upto {m : ℕ} (n : ℕ) : Finset (Fin m) := Finset.univ.filter fun k => k.val < n

theorem from_zero {m : ℕ} : (from_ 0 : Finset (Fin m)) = Finset.univ := Finset.filter_true_of_mem fun _ _ => Nat.zero_le _
theorem from_end {m : ℕ} : (from_ m : Finset (Fin m)) = ∅ := Finset.filter_false_of_mem fun k _ => Nat.not_le.mpr k.isLt
theorem upto_zero {m : ℕ} : (upto 0 : Finset (Fin m)) = ∅ := Finset.filter_false_of_mem fun k _ => Nat.not_lt_zero _
theorem upto_end {m : ℕ} : (upto m : Finset (Fin m)) = Finset.univ := Finset.filter_true_of_mem fun k _ => k.isLt
theorem from_succ {m : ℕ} (k : Fin m) : from_ k.val = insert k (from_ (k.val + 1)) := by
  ext i
  rw [Finset.mem_insert, from_, from_, Finset.mem_filter, Finset.mem_filter, Fin.ext_iff]
  have := Finset.mem_univ i
  constructor
  · rintro ⟨-, h⟩
    rcases Nat.lt_or_ge k.val i.val with h' | h'
    · exact .inr ⟨this, h'⟩
    · exact .inl (by omega)
  · rintro (h | ⟨-, h⟩)
    · exact ⟨this, by omega⟩
    · exact ⟨this, by omega⟩
theorem not_mem_from {m : ℕ} (k : Fin m) : k ∉ from_ (k.val + 1) := by
  rw [from_, Finset.mem_filter]; rintro ⟨-, h⟩; omega
theorem upto_succ {m : ℕ} (k : Fin m) : upto (k.val + 1) = insert k (upto k.val) := by
  ext i
  rw [Finset.mem_insert, upto, upto, Finset.mem_filter, Finset.mem_filter, Fin.ext_iff]
  have := Finset.mem_univ i
  constructor
  · rintro ⟨-, h⟩
    rcases Nat.lt_or_ge i.val k.val with h' | h'
    · exact .inr ⟨this, h'⟩
    · exact .inl (by omega)
  · rintro (h | ⟨-, h⟩)
    · exact ⟨this, by omega⟩
    · exact ⟨this, by omega⟩
theorem not_mem_upto {m : ℕ} (k : Fin m) : k ∉ upto k.val := by
  rw [upto, Finset.mem_filter]; rintro ⟨-, h⟩; omega

/-- The slots device `c` still owes its peers' receives, and the units it still owes their barriers, from peer `n` on. -/
def OR (c : Dev nD) (n : ℕ) : CellTallies nD τ sig Unit := ∑ k ∈ from_ n, tallyAt (dCell (peer k c) (jR k)) () N
def OB (c : Dev nD) (n : ℕ) : CellTallies nD τ sig Unit := ∑ k ∈ from_ n, tallyAt (barCell (peer k c)) () 1
/-- What a device owes at launch. -/
def O₀ (c : Dev nD) : CellTallies nD τ sig Unit := OB c 0 + OR c 0

theorem OR_succ (c : Dev nD) (k : Fin 7) : OR c k.val = OR c (k.val + 1) + tallyAt (dCell (peer k c) (jR k)) () N := by
  unfold OR; rw [from_succ, Finset.sum_insert (not_mem_from k), add_comm]
theorem OB_succ (c : Dev nD) (k : Fin 7) (O : CellTallies nD τ sig Unit) :
    OB c k.val + O = (OB c (k.val + 1) + O) + tallyAt (barCell (peer k c)) () 1 := by
  unfold OB; rw [from_succ, Finset.sum_insert (not_mem_from k), add_comm (tallyAt _ _ _), add_right_comm]
theorem OR_seven (c : Dev nD) : OR c 7 = 0 := by unfold OR; rw [from_end, Finset.sum_empty]
theorem OB_seven (c : Dev nD) : OB c 7 = 0 := by unfold OB; rw [from_end, Finset.sum_empty]

def L (g : GSem nD τ sig) : Finset Unit := if g.1.2 = .tc then {()} else ∅
/-- Barriers at 1, receives at 2, everything else at 0. -/
def lvS : SemLoc sig → ℕ
  | .reg s => if s = barS then 1 else 0
  | .dma q => match jOf q with | some j => if j.val % 2 = 0 then 0 else 2 | none => 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by
  show lvS (.reg barS) = 1
  simp only [lvS, if_pos]
theorem lv_recv (c : Dev nD) (k : Fin 7) (u : Unit) : lv (dCell c (jR k)) u = 2 := by
  show lvS (.dma (dS (jR k))) = 2
  simp only [lvS, jOf_dS]
  exact if_neg (by show ¬ (2 * k.val + 1) % 2 = 0; omega)

theorem sum_tally_pos {S : Finset (Fin 7)} {cell : Fin 7 → GSem nD τ sig} {n : ℕ} {g : GSem nD τ sig} {u : Unit}
    (h : 0 < (∑ k ∈ S, tallyAt (cell k) () n : CellTallies nD τ sig Unit) g u) : ∃ k, g = cell k := by
  rw [Finset.sum_apply, Finsupp.finset_sum_apply] at h
  obtain ⟨k, -, hk⟩ := Finset.exists_ne_zero_of_sum_ne_zero (Nat.pos_iff_ne_zero.mp h)
  rw [tallyAt_apply] at hk
  by_cases h' : g = cell k ∧ u = ()
  · exact ⟨k, h'.1⟩
  · rw [if_neg h'] at hk; exact absurd rfl hk

theorem OR_pos {c : Dev nD} {n : ℕ} {g : GSem nD τ sig} {u : Unit} (h : 0 < OR c n g u) : ∃ k, g = dCell (peer k c) (jR k) := sum_tally_pos h

theorem O₀_pos {c : Dev nD} {g : GSem nD τ sig} {u : Unit} (h : 0 < O₀ c g u) :
    (∃ k, g = barCell (peer k c)) ∨ ∃ k, g = dCell (peer k c) (jR k) := by
  unfold O₀ at h
  rw [Pi.add_apply, Finsupp.add_apply] at h
  rcases Nat.eq_zero_or_pos (OB c 0 g u) with h0 | h0
  · rw [h0, Nat.zero_add] at h; exact .inr (OR_pos h)
  · exact .inl (sum_tally_pos h0)

omit [FloatOps F] in
/-- A transfer semaphore at level 0 may be waited on at launch and at the end. -/
theorem mayWait_stage (c : Dev nD) (q : DmaSem sig) (hq : lvS (.dma q) = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | ⟨k, rfl⟩ <;> exact Finset.mem_singleton_self _)
      (fun p hp => by rw [Finset.mem_singleton.mp hp]; exact Nat.le_of_eq hq)
      (fun g u hg => by
        rcases O₀_pos hg with ⟨k, rfl⟩ | ⟨k, rfl⟩
        · rw [lv_bar]; decide
        · rw [lv_recv]; decide)
  · rw [MayWait_zero]; iintro -; iempintro

omit [FloatOps F] in
/-- At its barrier wait a device owes its peers' receives only. -/
theorem mayWait_bar (c : Dev nD) : (levAts L lv : sProp 𝕄) ⊢ MayWait (c : Thread nD τ) (.reg barS) () (OR c 0) :=
  MayOwe.of_cut (L := L) (lev := lv) 1 (fun p hp => by rw [Finset.mem_singleton.mp hp, L_tc]; exact Finset.mem_singleton_self _)
    (fun g u hg => by obtain ⟨k, rfl⟩ := OR_pos hg; exact Finset.mem_singleton_self _)
    (fun p hp => by rw [Finset.mem_singleton.mp hp]; exact Nat.le_of_eq (lv_bar c ()))
    (fun g u hg => by obtain ⟨k, rfl⟩ := OR_pos hg; rw [lv_recv]; decide)

end Cert.Exchange

end
-- ==== Proof.Steps.lean ====
/-
# The steps of the exchange

One rule per remote step of the kernel, stated for any peer: a signal, the barrier wait, a transfer, a wait on a transfer. What
remains to be paid or collected is kept in bundles over the peers from the `n`-th on, which each step shortens by one.
-/
module

public import proofs.«01_k».proof.Proof.Protocol

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (G : Contents F) (K : Dev nD × Option (Fin 14) → ℕ)

/-! ## What every device knows, and the bundles -/

/-- Every cell's invariant, and that every cell has reached its round. -/
def records : sProp 𝕄 :=
  iprop((bigSep Finset.univ fun ck : Dev nD × Option (Fin 14) => cellInv ER (sched G) (K ck) (kcell ck))
    ∗ bigSep Finset.univ fun ck : Dev nD × Option (Fin 14) => reached ER (kcell ck) 0)

instance records_persistent : BI.Persistent (records G K) := by unfold records; infer_instance

theorem records_inv (ck : Dev nD × Option (Fin 14)) : records G K ⊢ cellInv ER (sched G) (K ck) (kcell ck) := by
  unfold records; iintro ⟨H, -⟩; iapply (show (bigSep Finset.univ fun ck : Dev nD × Option (Fin 14) => (cellInv ER (sched G) (K ck) (kcell ck) : sProp 𝕄)) ⊢ cellInv ER (sched G) (K ck) (kcell ck) from
    bigSep_elim (Finset.mem_univ ck)); iexact H
theorem records_reached (ck : Dev nD × Option (Fin 14)) : records G K ⊢ reached ER (kcell ck) 0 := by
  unfold records; iintro ⟨-, H⟩; iapply (show (bigSep Finset.univ fun ck : Dev nD × Option (Fin 14) => (reached ER (kcell ck) 0 : sProp 𝕄)) ⊢ reached ER (kcell ck) 0 from
    bigSep_elim (Finset.mem_univ ck)); iexact H

/-- What a device owes, whatever it has waited on. -/
def owesE (c : Dev nD) (O : CellTallies nD τ sig Unit) : sProp 𝕄 := iprop(∃ W, owes (c : Thread nD τ) O W)

/-- For each signal still to be sent: its duty, and the copy of the peer's slot it hands over. -/
def sigOne (c : Dev nD) (k : Fin 7) : sProp 𝕄 := iprop(dutyTok ER (barCell (peer k c)) 0 k ∗ ∃ f : Contents F, slotPts c (peer k c) fullShare f)
def sigB (c : Dev nD) (n : ℕ) : sProp 𝕄 := bigSep (from_ n) fun k : Fin 7 => sigOne c k

/-- For each transfer still to be started: its two duties, and the peer's copy of the device's slot. -/
def sndOne (c : Dev nD) (k : Fin 7) : sProp 𝕄 :=
  iprop(dutyTok ER (dCell c (jS k)) 0 0 ∗ dutyTok ER (dCell (peer k c) (jR k)) 0 0 ∗ barPay c k)
def sndB (c : Dev nD) (n : ℕ) : sProp 𝕄 := bigSep (from_ n) fun k : Fin 7 => sndOne c k
/-- The credit of the sends under way. -/
def crB (c : Dev nD) (n : ℕ) : sProp 𝕄 := bigSep (upto n) fun k : Fin 7 => cred (tallyAt (dCell c (jS k)) () N)

/-- For each transfer semaphore still to be waited on: its credit and the device's position there. -/
def waitOne (c : Dev nD) (j : Fin 14) : sProp 𝕄 := iprop(cred (tallyAt (dCell c j) () N) ∗ atPos ER (dCell c j) 0 ∅ 0)
def waitB (c : Dev nD) (n : ℕ) : sProp 𝕄 := bigSep (from_ n) fun j : Fin 14 => waitOne c j
/-- For each one waited on: its counter, at zero, and what it paid. -/
def doneOne (c : Dev nD) (j : Fin 14) : sProp 𝕄 := iprop(semVal (dCell c j) 0 ∗ dPay G c j)
def doneB (c : Dev nD) (n : ℕ) : sProp 𝕄 := bigSep (upto n) fun j : Fin 14 => doneOne G c j

theorem from_split {m : ℕ} (k : Fin m) (Φ : Fin m → sProp 𝕄) :
    bigSep (from_ k.val) Φ = iprop(Φ k ∗ bigSep (from_ (k.val + 1)) Φ) := by rw [from_succ k, bigSep_insert (not_mem_from k)]; rfl
theorem upto_split {m : ℕ} (k : Fin m) (Φ : Fin m → sProp 𝕄) :
    bigSep (upto (k.val + 1)) Φ = iprop(Φ k ∗ bigSep (upto k.val) Φ) := by rw [upto_succ k, bigSep_insert (not_mem_upto k)]; rfl

/-! ## The steps -/

/-- The signal to peer `k`. -/
theorem step_signal (c : Dev nD) (k : Fin 7) (n n' : ℕ) (hn : n = k.val) (hn' : n' = k.val + 1) {t : Dev nD} (ht : t = peer k c) {a : ℕ} (ha : a = 1)
    {α : Type} {Q : α → sProp 𝕄} {kk : PUnit → Prog (TpuEff nD τ sig (Elt F) Λ₀ .tc) α} :
    iprop(records G K ∗ owesE c (OB c n + OR c 0) ∗ sigB (F := F) c n)
      ⊢ iprop(((owesE c (OB c n' + OR c 0) ∗ sigB (F := F) c n') -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (Dev.tc t : Thread nD τ) barS a) kk) Q) := by
  subst hn hn' ht ha
  unfold owesE sigB
  rw [from_split k]
  iintro ⟨#HR, ⟨%W, HO⟩, Hone, Hrest⟩ Hk
  unfold sigOne
  icases Hone with ⟨Ht, %f, Hs⟩
  iapply (Rounds.wp_signal 𝒱₀ ER (sched G) (c : Thread nD τ) none (dst := (peer k c : Thread nD τ)) (κ := K (peer k c, none))
      (d := k) (by rw [duties_bar]; exact Finset.mem_univ _) (amount_bar G (peer k c) k) () (OB c (k.val + 1) + OR c 0) (OB_succ c k _))
    $$ [HO Ht Hs]
  · isplitr; · iapply (records_inv G K (peer k c, none)); iexact HR
    isplitl [HO]; · iexact HO
    isplitl [Ht]; · iexact Ht
    isplitl [Hs]
    · rw [payload_bar]; unfold barPay; rw [peer_peer]; iexists f; iexact Hs
    · iapply (records_reached G K (peer k c, none)); iexact HR
  iintro HO
  iapply Hk
  isplitl [HO]; · iexists W; iexact HO
  iexact Hrest

/-- The wait for all seven signals, and what they hand over. -/
theorem step_barrier (c : Dev nD) {a : ℕ} (ha : a = 7)
    {α : Type} {Q : α → sProp 𝕄} {kk : PUnit → Prog (TpuEff nD τ sig (Elt F) Λ₀ .tc) α} :
    iprop(records G K ∗ levAts L lv ∗ owesE c (OB c 7 + OR c 0) ∗ cred (tallyAt (barCell c) () 7) ∗ atPos ER (barCell c) 0 ∅ 0)
      ⊢ iprop(((owesE c (OR c 0) ∗ semVal (barCell c) 0 ∗ bigSep Finset.univ fun k => barPay (F := F) c k)
            -∗ wp frame (wpE (defs₀ (F := F)) 𝒱₀ (c : Thread nD τ) none) Set.univ (kk ⟨⟩) Q)
          -∗ wp frame (wpE (defs₀ (F := F)) 𝒱₀ (c : Thread nD τ) none) Set.univ (.op (.semWait barS a) kk) Q) := by
  subst ha
  unfold owesE
  rw [OB_seven, zero_add]
  iintro ⟨#HR, #Hlev, ⟨%W, HO⟩, Hc, Hat⟩ Hk
  iapply (Rounds.wp_wait_rest_token 𝒱₀ ER (sched G) (c : Thread nD τ) none (κ := K (c, none))
      (wpE_semWait_eq 𝒱₀ (c : Thread nD τ) none Set.univ) (Set.mem_univ _) () (O := OR c 0) (W := W) (R := 0) (m := 0) (T := ∅)
      (by rw [expect_bar])) $$ [Hc HO Hat]
  · isplitr; · iapply (records_inv G K (c, none)); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar G c)) $$ Hpay
  imod (Rounds.cell_close ER (sched G) (Set.mem_univ (K (c, none))) (fun h => h) (R := 0 + 1) (duties_later G (barCell c))) $$ [Hat] with Hz
  · isplitr; · iapply (records_inv G K (c, none)); iexact HR
    iexact Hat
  iapply Hk
  isplitl [HO]; · iexists _; iexact HO
  isplitl [Hz]; · iexact Hz
  iexact Hp

omit [FloatOps F] in
/-- Writing over a slot what the slot reads of `G` leaves `G` there. -/
theorem slot_written (c d : Dev nD) (f : Contents F) :
    ((slotM d).view.loc (c : Thread nD τ) ↦[(slotM d).view.set]{fullShare} ((slotM d).view.write (Elt F) f ((slotM d).view.read (Elt F) G) Finset.univ) : sProp 𝕄)
      = slotPts c d fullShare G := by
  unfold slotPts
  refine pointsTo_congr fun i hi => ?_
  rw [View.write_read_eq_piecewise, View.setOn_univ, Finset.piecewise_eq_of_mem _ _ _ hi]

omit [FloatOps F] in
/-- What is left of the slot, split into the next transfer's share and the rest. -/
theorem slot_split (c : Dev nD) (n : ℕ) : slotPts c c (tail n) G ⊢ iprop(slotPts c c (sh n) G ∗ slotPts c c (tail (n + 1)) G) :=
  (pointsTo_share (PosShare.mem_left_op_right (tail n))).1

theorem send_pays (c : Dev nD) (k : Fin 7) :
    ((slotM c).view.loc (c : Thread nD τ) ↦[(slotM c).view.set]{sh k.val} G : sProp 𝕄) ⊢ (sched G).payload (dCell c (jS k)) 0 0 := by
  rw [payload_d, dPay_send]; exact BI.Entails.refl _

theorem recv_pays (c : Dev nD) (k : Fin 7) (f : Contents F) :
    ((slotM c).view.loc (peer k c : Thread nD τ) ↦[(slotM c).view.set]{fullShare}
        ((slotM c).view.write (Elt F) f ((slotM c).view.read (Elt F) G) Finset.univ) : sProp 𝕄)
      ⊢ (sched G).payload (dCell (peer k c) (jR k)) 0 0 := by
  rw [payload_d, dPay_recv, peer_peer]; exact Entails.of_eq (slot_written G (peer k c) c f)

/-- The transfer of a part of the device's slot to peer `k`, by the cells' duties. -/
theorem send_slot (c : Dev nD) (k : Fin 7) (f : Contents F) (W : Waits sig Unit)
    {hsc : (slotM c : Memref sig (Dev.tc (peer k c) : Thread nD τ).2.kind .vmem S128x16 .f32).view.ref.isScScratch = false}
    {hsrc : (slotM c : Memref sig .tc .vmem S128x16 .f32).view.WordExact} {hdst : (slotM c : Memref sig .tc .vmem S128x16 .f32).view.WordExact}
    {hsem : DmaTarget.Typed .vmem (.dma (dS (jR k))) (.remote (Dev.tc (peer k c) : Thread nD τ) (slotM c) (.dma (dS (jS k))) hsc)}
    {α : Type} {Q : α → sProp 𝕄} {kk : PUnit → Prog (TpuEff nD τ sig (Elt F) Λ₀ .tc) α} :
    iprop(cellInv ER (sched G) (K (c, some (jS k))) (dCell c (jS k)) ∗ cellInv ER (sched G) (K (peer k c, some (jR k))) (dCell (peer k c) (jR k))
        ∗ slotPts c c (sh k.val) G ∗ slotPts (peer k c) c fullShare f ∗ owes (c : Thread nD τ) (OR c k.val) W
        ∗ dutyTok ER (dCell c (jS k)) 0 0 ∗ reached ER (dCell c (jS k)) 0
        ∗ dutyTok ER (dCell (peer k c) (jR k)) 0 0 ∗ reached ER (dCell (peer k c) (jR k)) 0)
      ⊢ iprop(((cred (tallyAt (dCell c (jS k)) () N) ∗ owes (c : Thread nD τ) (OR c (k.val + 1)) W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (slotM c) (.remote (Dev.tc (peer k c) : Thread nD τ) (slotM c) (.dma (dS (jS k))) hsc) (.dma (dS (jR k))) hsrc hdst hsem) kk) Q) := by
  exact Rounds.wp_send_pointsTo 𝒱₀ ER (sched G) (c : Thread nD τ) none (c' := (peer k c : Thread nD τ)) (src := slotM c) (dst := slotM c)
    (sS := .dma (dS (jS k))) (sem := .dma (dS (jR k))) (q := sh k.val) (fs := G) (κ₁ := K (c, some (jS k))) (κ₂ := K (peer k c, some (jR k)))
    (r₁ := 0) (r₂ := 0) (d₁ := 0) (d₂ := 0) (fd := f)
    (by rw [duties_d]; exact Finset.mem_singleton_self _) (by rw [duties_d]; exact Finset.mem_singleton_self _)
    () () N (N_eq c) (amount_d G c (jS k) 0) (amount_d G (peer k c) (jR k) 0) (OR c (k.val + 1)) (OR_succ c k) (W := W)
    (send_pays G c k) (recv_pays G c k f)

/-- The transfer of the device's slot to peer `k`. -/
theorem step_send (c : Dev nD) (k : Fin 7) (n n' : ℕ) (hn : n = k.val) (hn' : n' = k.val + 1) {t : Dev nD} (ht : t = peer k c)
    {qS qR : DmaSem sig} (hqS : qS = dS (jS k)) (hqR : qR = dS (jR k))
    {hsc : (slotM c : Memref sig (Dev.tc t : Thread nD τ).2.kind .vmem S128x16 .f32).view.ref.isScScratch = false}
    {hsrc : (slotM c : Memref sig .tc .vmem S128x16 .f32).view.WordExact} {hdst : (slotM c : Memref sig .tc .vmem S128x16 .f32).view.WordExact}
    {hsem : DmaTarget.Typed .vmem (.dma qR) (.remote (Dev.tc t : Thread nD τ) (slotM c) (.dma qS) hsc)}
    {α : Type} {Q : α → sProp 𝕄} {kk : PUnit → Prog (TpuEff nD τ sig (Elt F) Λ₀ .tc) α} :
    iprop(records G K ∗ owesE c (OR c n) ∗ sndB (F := F) c n ∗ slotPts c c (tail n) G ∗ crB (F := F) c n)
      ⊢ iprop(((owesE c (OR c n') ∗ sndB (F := F) c n' ∗ slotPts c c (tail n') G ∗ crB (F := F) c n')
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (slotM c) (.remote (Dev.tc t : Thread nD τ) (slotM c) (.dma qS) hsc) (.dma qR) hsrc hdst hsem) kk) Q) := by
  subst hn hn' ht hqS hqR
  unfold owesE sndB crB
  rw [from_split k, upto_split k]
  iintro ⟨#HR, ⟨%W, HO⟩, ⟨Hone, Hrest⟩, Hs, Hcr⟩ Hk
  unfold sndOne barPay
  icases Hone with ⟨HtS, HtR, %f, Hd⟩
  ihave Hs2 := (slot_split G c k.val) $$ Hs
  icases Hs2 with ⟨HsL, HsR⟩
  iapply (send_slot G K c k f W) $$ [HsL Hd HO HtS HtR]
  · isplitr; · iapply (records_inv G K (c, some (jS k))); iexact HR
    isplitr; · iapply (records_inv G K (peer k c, some (jR k))); iexact HR
    isplitl [HsL]; · iexact HsL
    isplitl [Hd]; · iexact Hd
    isplitl [HO]; · iexact HO
    isplitl [HtS]; · iexact HtS
    isplitr; · iapply (records_reached G K (c, some (jS k))); iexact HR
    isplitl [HtR]; · iexact HtR
    iapply (records_reached G K (peer k c, some (jR k))); iexact HR
  iintro ⟨Hc, HO⟩
  iapply Hk
  isplitl [HO]; · iexists W; iexact HO
  isplitl [Hrest]; · iexact Hrest
  isplitl [HsR]; · iexact HsR
  isplitl [Hc]; · iexact Hc
  iexact Hcr

/-- The wait on the `j`-th transfer semaphore. -/
theorem step_wait (c : Dev nD) (j : Fin 14) (n n' : ℕ) (hn : n = j.val) (hn' : n' = j.val + 1) {q : DmaSem sig} (hq : q = dS j)
    {hsrc hdst : (slotM c : Memref sig .tc .vmem S128x16 .f32).view.WordExact}
    {α : Type} {Q : α → sProp 𝕄} {kk : PUnit → Prog (TpuEff nD τ sig (Elt F) Λ₀ .tc) α} :
    iprop(records G K ∗ owesE c 0 ∗ waitB (F := F) c n ∗ doneB G c n)
      ⊢ iprop(((owesE c 0 ∗ waitB (F := F) c n' ∗ doneB G c n') -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 q (slotM c) (slotM c) hsrc hdst) kk) Q) := by
  subst hn hn' hq
  unfold owesE waitB doneB
  rw [from_split j, upto_split j]
  iintro ⟨#HR, ⟨%W, HO⟩, ⟨Hone, Hrest⟩, Hdone⟩ Hk
  unfold waitOne
  icases Hone with ⟨Hc, Hat⟩
  iapply (Rounds.wp_wait_rest_token 𝒱₀ ER (sched G) (c : Thread nD τ) none (κ := K (c, some j))
      (wpE_waitDma2_eq 𝒱₀ (c : Thread nD τ) none Set.univ) (Set.mem_univ _) () (O := 0) (W := W) (R := 0) (m := 0) (T := ∅)
      (by rw [Nat.zero_add, N_eq, expect_d])) $$ [Hc HO Hat]
  · isplitr; · iapply (records_inv G K (c, some j)); iexact HR
    isplitl [Hc]; · iexact Hc
    isplitl [HO]; · iexact HO
    isplitr; · rw [MayWait_zero]; iempintro
    iexact Hat
  iintro ⟨HO, Hat, -, Hpay⟩
  ihave Hp := (Entails.of_eq (rest_d G c j)) $$ Hpay
  imod (Rounds.cell_close ER (sched G) (Set.mem_univ (K (c, some j))) (fun h => h) (R := 0 + 1) (duties_later G (dCell c j))) $$ [Hat] with Hz
  · isplitr; · iapply (records_inv G K (c, some j)); iexact HR
    iexact Hat
  iapply Hk
  isplitl [HO]; · iexists _; iexact HO
  isplitl [Hrest]; · iexact Hrest
  isplitl [Hz Hp]
  · unfold doneOne
    isplitl [Hz]; · iexact Hz
    iexact Hp
  iexact Hdone

end Cert.Exchange

end
-- ==== Proof.Vals.lean ====
/-
# The values a device computes

The kernel keeps five registers per lane: the five largest values met so far, inserted by a chain of maxima and minima. From the
640 candidates of a row it takes sixteen times the largest value below the last one. These are the values as arrays, for any
float values; what they amount to is said elsewhere.
-/
module

public import proofs.«01_k».proof.Proof.Steps

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The buffers -/

abbrev xM : Memref sig .tc .vmem S512x4096 .f32 := Memref.whole cc0_stg0_0
abbrev oM : Memref sig .tc .vmem S512x16 .f32 := Memref.whole cc0_stg1_0

abbrev Block (F : FTy → Type) : Type := (cc0_stg0_0 : Ref sig .tc).ty.Contents (Elt F)

/-! ## The registers -/

/-- Where the `n`-th block of columns begins: rows from the device's quarter, 128 columns apart. -/
abbrev coff (c : Dev nD) (n : ℕ) : Fin 2 → ℕ := ![256 * (c.val / 4) + 128 * ((c.val / 2) % 2), 128 * (n % 32)]

theorem coff_inb (c : Dev nD) (n : ℕ) : ∀ a, (coff c n) a + S128x128.size a ≤ S512x4096.size a := by
  have h := c.isLt
  intro a; fin_cases a
  · show 256 * (c.val / 4) + 128 * ((c.val / 2) % 2) + 128 ≤ 512
    have : c.val / 4 ≤ 1 := by have : nD = 8 := rfl; omega
    omega
  · show 128 * (n % 32) + 128 ≤ 4096
    omega

/-- The `n`-th block of columns. -/
def chunk (X : Block F) (c : Dev nD) (n : ℕ) : Vec F S128x128 .f32 :=
  (xM : Memref sig .tc .vmem S512x4096 .f32).view.readAt (Elt F) (Rect.unit (s := S512x4096) (coff c n) S128x128.size (coff_inb c n)).toLoadRect X

/-- Five registers per row and lane. -/
structure Regs (F : FTy → Type) where
  a : FVec F S128x128 .f32
  b : FVec F S128x128 .f32
  c : FVec F S128x128 .f32
  d : FVec F S128x128 .f32
  e : FVec F S128x128 .f32

/-- What each register passes on to the next. -/
def Regs.c1 (r : Regs F) (x : FVec F S128x128 .f32) : FVec F S128x128 .f32 := minimumf r.a x
def Regs.c2 (r : Regs F) (x : FVec F S128x128 .f32) : FVec F S128x128 .f32 := minimumf r.b (r.c1 x)
def Regs.c3 (r : Regs F) (x : FVec F S128x128 .f32) : FVec F S128x128 .f32 := minimumf r.c (r.c2 x)
def Regs.c4 (r : Regs F) (x : FVec F S128x128 .f32) : FVec F S128x128 .f32 := minimumf r.d (r.c3 x)
/-- A value inserted. -/
def Regs.push (r : Regs F) (x : FVec F S128x128 .f32) : Regs F :=
  ⟨maximumf r.a x, maximumf r.b (r.c1 x), maximumf r.c (r.c2 x), maximumf r.d (r.c3 x), maximumf r.e (r.c4 x)⟩

/-- The least finite value, which registers start from and used-up candidates become. -/
abbrev low : F .f32 := Scalar.ofBits .f32 0xFF7FFFFF#32

def col (X : Block F) (c : Dev nD) (n : ℕ) : FVec F S128x128 .f32 := shapeCast S128x128 (chunk X c n) shapeCasts_S128x128_S128x128

/-- The registers after the first `n` blocks of columns. -/
def regs (X : Block F) (c : Dev nD) : ℕ → Regs F
  | 0 => ⟨broadcast S128x128 low, broadcast S128x128 low, broadcast S128x128 low, broadcast S128x128 low, broadcast S128x128 low⟩
  | n + 1 => (regs X c n).push (col X c n)

/-! ## The candidates and the sixteen largest -/

def cand (X : Block F) (c : Dev nD) : FVec F S128x640 .f32 :=
  concatenate S128x640 1 [⟨S128x128, (regs X c 32).a⟩, ⟨S128x128, (regs X c 32).b⟩, ⟨S128x128, (regs X c 32).c⟩, ⟨S128x128, (regs X c 32).d⟩, ⟨S128x128, (regs X c 32).e⟩]
    concatenates_S128x128_S128x128_S128x128_S128x128_S128x128_S128x640_d1

/-- The largest of each row. -/
def rowMax (v : FVec F S128x640 .f32) : FVec F S128x1 .f32 :=
  shapeCast S128x1 (multiReduction .maximumf [1] S128 v 0xFF800000#32 reduces_S128x640_S128 (.inl rfl) rfl) shapeCasts_S128_S128x1

def spread (t : FVec F S128x1 .f32) : FVec F S128x640 .f32 := broadcastTo S128x640 t broadcasts_S128x1_S128x640

/-- What lies below `t`, the rest set low. -/
def below (v : FVec F S128x640 .f32) (t : FVec F S128x1 .f32) : FVec F S128x640 .f32 :=
  select (cmpf .olt v (spread t)) v (broadcast S128x640 low)

/-- The `k`-th largest distinct candidate of each row. -/
def ext (v : FVec F S128x640 .f32) : ℕ → FVec F S128x1 .f32
  | 0 => rowMax v
  | k + 1 => rowMax (below v (ext v k))

/-- The device's third coordinate, as the kernel computes it. -/
def zword (c : Dev nD) : BitVec 32 := Scalar.remsi (Scalar.divsi (Dev.word c) 1#32) 2#32

/-- What a device stores to its slot. -/
def slotVal (X : Block F) (c : Dev nD) : FVec F S1x1x128x16 .f32 :=
  k0_pay274 (zword c) (cand X c) (ext (cand X c) 0) (ext (cand X c) 1) (ext (cand X c) 2) (ext (cand X c) 3) (ext (cand X c) 4) (ext (cand X c) 5)
    (ext (cand X c) 6) (ext (cand X c) 7) (ext (cand X c) 8) (ext (cand X c) 9) (ext (cand X c) 10) (ext (cand X c) 11) (ext (cand X c) 12)
    (spread (ext (cand X c) 12))

/-! ## The result -/

/-- The result, from the slots of the two halves. -/
def merged (l0 l1 : Vec F S1x4x128x16 .f32) : FVec F S512x16 .f32 :=
  (fun v0 v1 v2 v3 v4 v5 v6 v7 => k0_pay1 (k0_pay292 v0 v1 v2 v3 v4 v5 v6 v7) (k0_pay293 v0 v1 v2 v3 v4 v5 v6 v7) (k0_pay296 v0 v1 v2 v3 v4 v5 v6 v7) (k0_pay297 v0 v1 v2 v3 v4 v5 v6 v7) (k0_pay300 v0 v1 v2 v3 v4 v5 v6 v7) (k0_pay301 v0 v1 v2 v3 v4 v5 v6 v7) (k0_pay304 v0 v1 v2 v3 v4 v5 v6 v7) (k0_pay305 v0 v1 v2 v3 v4 v5 v6 v7) (k0_pay308 v0 v1 v2 v3 v4 v5 v6 v7) (k0_pay309 v0 v1 v2 v3 v4 v5 v6 v7) (k0_pay312 v0 v1 v2 v3 v4 v5 v6 v7) (k0_pay313 v0 v1 v2 v3 v4 v5 v6 v7) (k0_pay316 v0 v1 v2 v3 v4 v5 v6 v7) (k0_pay317 v0 v1 v2 v3 v4 v5 v6 v7) (k0_pay320 v0 v1 v2 v3 v4 v5 v6 v7) (k0_pay321 v0 v1 v2 v3 v4 v5 v6 v7))
    (k0_pay275 l0 l1) (k0_pay278 l0 l1) (k0_pay279 l0 l1) (k0_pay282 l0 l1) (k0_pay283 l0 l1) (k0_pay286 l0 l1) (k0_pay287 l0 l1) (k0_pay288 l0 l1)

end Cert.Exchange

end
-- ==== Proof.Columns.lean ====
/-
# The column blocks, part by part

Each part of the kernel that only reads the device's block and computes, run with its values named.
-/
module

public import proofs.«01_k».proof.Proof.Vals

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The device's block, as it lies in its staging buffer. -/
def xOwn (c : Dev nD) (X : Block F) : sProp 𝕄 := ((c : Thread nD τ).loc cc0_stg0_0) ↦{fullShare} X

/-- A load of the `n`-th block of columns. -/
theorem step_load (X : Block F) (c : Dev nD) (n : ℕ) {off : Fin 2 → ℕ} (hoff : off = coff c n) {hin : ∀ a, off a + S128x128.size a ≤ S512x4096.size a}
    {hl : (xM : Memref sig .tc .vmem S512x4096 .f32).view.LoadsAt (Rect.unit (s := S512x4096) off S128x128.size hin).toLoadRect}
    {α : Type} {Q : α → sProp 𝕄} {kk : Vec F S128x128 .f32 → Prog (TpuEff nD τ sig (Elt F) Λ₀ .tc) α} :
    xOwn c X ⊢ iprop((xOwn c X -∗ wp frame (wpE (defs₀ (F := F)) 𝒱₀ (c : Thread nD τ) none) Set.univ (kk (chunk X c n)) Q)
      -∗ wp frame (wpE (defs₀ (F := F)) 𝒱₀ (c : Thread nD τ) none) Set.univ
          (.op (.load xM (Rect.unit (s := S512x4096) off S128x128.size hin).toLoadRect hl) kk) Q) := by
  subst hoff
  exact wp_load 𝒱₀ (c : Thread nD τ) none Set.univ (m := xM) (Finset.subset_univ _)

/-- A part ends at its result. -/
theorem finish {c : Dev nD} {α : Type} {a b : α} {Q : α → sProp 𝕄} (h : a = b) :
    Q b ⊢ wp frame (wpE (defs₀ (F := F)) 𝒱₀ (c : Thread nD τ) none) Set.univ (Prog.ret a) Q := by
  subst h
  rw [wp_ret]; iintro H; imodintro; iexact H

variable (X : Block F) (c : Dev nD)

theorem part6 (w : BitVec 32) {Q : _ → sProp 𝕄} :
    iprop(xOwn c X ∗ (xOwn c X -∗ Q ⟨(regs X c 7).b, (regs X c 7).c, (regs X c 7).d, (regs X c 7).e, (regs X c 8).a, ((regs X c 7).c1 (col X c 7))⟩))
      ⊢ wp frame (wpE (defs₀ (F := F)) 𝒱₀ (c : Thread nD τ) none) Set.univ
          (k0_part6 xM (Memref.isWhole_whole _) oM (Memref.isWhole_whole _) scrM (Memref.isWhole_whole _) cc0_scratch1 cc0_scratch2 c w (regs X c 2).d (regs X c 2).e (regs X c 3).a (regs X c 3).b (regs X c 3).c ((regs X c 2).c3 (col X c 2)) (regs X c 3).d) Q := by
  rw [k0_part6_eq_skeleton]; unfold k0_part6_skel
  simp only [Prog.lift, Prog.bind_op, Prog.bind_ret, Prog.pure_eq_ret]
  iintro ⟨Hx, Hk⟩
  iapply (step_load X c 3 (k0_off4_eq c)) $$ Hx; iintro Hx
  iapply (step_load X c 4 (k0_off5_eq c)) $$ Hx; iintro Hx
  iapply (step_load X c 5 (k0_off6_eq c)) $$ Hx; iintro Hx
  iapply (step_load X c 6 (k0_off7_eq c)) $$ Hx; iintro Hx
  iapply (step_load X c 7 (k0_off8_eq c)) $$ Hx; iintro Hx
  ihave H := Hk $$ Hx
  iapply (finish ?_) $$ H
  rfl

theorem part7 (w : BitVec 32) {Q : _ → sProp 𝕄} :
    iprop(xOwn c X ∗ (xOwn c X -∗ Q ⟨(regs X c 12).a, (regs X c 12).b, (regs X c 12).c, (regs X c 12).d, (regs X c 12).e⟩))
      ⊢ wp frame (wpE (defs₀ (F := F)) 𝒱₀ (c : Thread nD τ) none) Set.univ
          (k0_part7 xM (Memref.isWhole_whole _) oM (Memref.isWhole_whole _) scrM (Memref.isWhole_whole _) cc0_scratch1 cc0_scratch2 c w (regs X c 7).b (regs X c 7).c (regs X c 7).d (regs X c 7).e (regs X c 8).a ((regs X c 7).c1 (col X c 7))) Q := by
  rw [k0_part7_eq_skeleton]; unfold k0_part7_skel
  simp only [Prog.lift, Prog.bind_op, Prog.bind_ret, Prog.pure_eq_ret]
  iintro ⟨Hx, Hk⟩
  iapply (step_load X c 8 (k0_off9_eq c)) $$ Hx; iintro Hx
  iapply (step_load X c 9 (k0_off10_eq c)) $$ Hx; iintro Hx
  iapply (step_load X c 10 (k0_off11_eq c)) $$ Hx; iintro Hx
  iapply (step_load X c 11 (k0_off12_eq c)) $$ Hx; iintro Hx
  ihave H := Hk $$ Hx
  iapply (finish ?_) $$ H
  rfl

theorem part8 (w : BitVec 32) {Q : _ → sProp 𝕄} :
    iprop(xOwn c X ∗ (xOwn c X -∗ Q ⟨(regs X c 16).c, (regs X c 16).d, (regs X c 16).e, (regs X c 17).a, (regs X c 17).b, ((regs X c 16).c2 (col X c 16)), (regs X c 17).c⟩))
      ⊢ wp frame (wpE (defs₀ (F := F)) 𝒱₀ (c : Thread nD τ) none) Set.univ
          (k0_part8 xM (Memref.isWhole_whole _) oM (Memref.isWhole_whole _) scrM (Memref.isWhole_whole _) cc0_scratch1 cc0_scratch2 c w (regs X c 12).a (regs X c 12).b (regs X c 12).c (regs X c 12).d (regs X c 12).e) Q := by
  rw [k0_part8_eq_skeleton]; unfold k0_part8_skel
  simp only [Prog.lift, Prog.bind_op, Prog.bind_ret, Prog.pure_eq_ret]
  iintro ⟨Hx, Hk⟩
  iapply (step_load X c 12 (k0_off13_eq c)) $$ Hx; iintro Hx
  iapply (step_load X c 13 (k0_off14_eq c)) $$ Hx; iintro Hx
  iapply (step_load X c 14 (k0_off15_eq c)) $$ Hx; iintro Hx
  iapply (step_load X c 15 (k0_off16_eq c)) $$ Hx; iintro Hx
  iapply (step_load X c 16 (k0_off17_eq c)) $$ Hx; iintro Hx
  ihave H := Hk $$ Hx
  iapply (finish ?_) $$ H
  rfl

theorem part9 (w : BitVec 32) {Q : _ → sProp 𝕄} :
    iprop(xOwn c X ∗ (xOwn c X -∗ Q ⟨(regs X c 21).a, (regs X c 21).b, (regs X c 21).c, (regs X c 21).d, (regs X c 21).e, (col X c 21)⟩))
      ⊢ wp frame (wpE (defs₀ (F := F)) 𝒱₀ (c : Thread nD τ) none) Set.univ
          (k0_part9 xM (Memref.isWhole_whole _) oM (Memref.isWhole_whole _) scrM (Memref.isWhole_whole _) cc0_scratch1 cc0_scratch2 c w (regs X c 16).c (regs X c 16).d (regs X c 16).e (regs X c 17).a (regs X c 17).b ((regs X c 16).c2 (col X c 16)) (regs X c 17).c) Q := by
  rw [k0_part9_eq_skeleton]; unfold k0_part9_skel
  simp only [Prog.lift, Prog.bind_op, Prog.bind_ret, Prog.pure_eq_ret]
  iintro ⟨Hx, Hk⟩
  iapply (step_load X c 17 (k0_off18_eq c)) $$ Hx; iintro Hx
  iapply (step_load X c 18 (k0_off19_eq c)) $$ Hx; iintro Hx
  iapply (step_load X c 19 (k0_off20_eq c)) $$ Hx; iintro Hx
  iapply (step_load X c 20 (k0_off21_eq c)) $$ Hx; iintro Hx
  iapply (step_load X c 21 (k0_off22_eq c)) $$ Hx; iintro Hx
  ihave H := Hk $$ Hx
  iapply (finish ?_) $$ H
  rfl

theorem part10 (w : BitVec 32) {Q : _ → sProp 𝕄} :
    iprop(xOwn c X ∗ (xOwn c X -∗ Q ⟨(regs X c 25).e, (regs X c 26).a, (regs X c 26).b, (regs X c 26).c, (regs X c 26).d, ((regs X c 25).c4 (col X c 25))⟩))
      ⊢ wp frame (wpE (defs₀ (F := F)) 𝒱₀ (c : Thread nD τ) none) Set.univ
          (k0_part10 xM (Memref.isWhole_whole _) oM (Memref.isWhole_whole _) scrM (Memref.isWhole_whole _) cc0_scratch1 cc0_scratch2 c w (regs X c 21).a (regs X c 21).b (regs X c 21).c (regs X c 21).d (regs X c 21).e (col X c 21)) Q := by
  rw [k0_part10_eq_skeleton]; unfold k0_part10_skel
  simp only [Prog.lift, Prog.bind_op, Prog.bind_ret, Prog.pure_eq_ret]
  iintro ⟨Hx, Hk⟩
  iapply (step_load X c 22 (k0_off23_eq c)) $$ Hx; iintro Hx
  iapply (step_load X c 23 (k0_off24_eq c)) $$ Hx; iintro Hx
  iapply (step_load X c 24 (k0_off25_eq c)) $$ Hx; iintro Hx
  iapply (step_load X c 25 (k0_off26_eq c)) $$ Hx; iintro Hx
  ihave H := Hk $$ Hx
  iapply (finish ?_) $$ H
  rfl

theorem part11 (w : BitVec 32) {Q : _ → sProp 𝕄} :
    iprop(xOwn c X ∗ (xOwn c X -∗ Q ⟨(regs X c 30).b, (regs X c 30).c, (regs X c 30).d, (regs X c 30).e, (regs X c 31).a, ((regs X c 30).c1 (col X c 30)), (regs X c 31).b⟩))
      ⊢ wp frame (wpE (defs₀ (F := F)) 𝒱₀ (c : Thread nD τ) none) Set.univ
          (k0_part11 xM (Memref.isWhole_whole _) oM (Memref.isWhole_whole _) scrM (Memref.isWhole_whole _) cc0_scratch1 cc0_scratch2 c w (regs X c 25).e (regs X c 26).a (regs X c 26).b (regs X c 26).c (regs X c 26).d ((regs X c 25).c4 (col X c 25))) Q := by
  rw [k0_part11_eq_skeleton]; unfold k0_part11_skel
  simp only [Prog.lift, Prog.bind_op, Prog.bind_ret, Prog.pure_eq_ret]
  iintro ⟨Hx, Hk⟩
  iapply (step_load X c 26 (k0_off27_eq c)) $$ Hx; iintro Hx
  iapply (step_load X c 27 (k0_off28_eq c)) $$ Hx; iintro Hx
  iapply (step_load X c 28 (k0_off29_eq c)) $$ Hx; iintro Hx
  iapply (step_load X c 29 (k0_off30_eq c)) $$ Hx; iintro Hx
  iapply (step_load X c 30 (k0_off31_eq c)) $$ Hx; iintro Hx
  ihave H := Hk $$ Hx
  iapply (finish ?_) $$ H
  rfl

theorem part12 (w : BitVec 32) {Q : _ → sProp 𝕄} :
    iprop(xOwn c X ∗ (xOwn c X -∗ Q ⟨(cand X c), (ext (cand X c) 0), (ext (cand X c) 1), (ext (cand X c) 2), (ext (cand X c) 3), (ext (cand X c) 4), (below (cand X c) (ext (cand X c) 4))⟩))
      ⊢ wp frame (wpE (defs₀ (F := F)) 𝒱₀ (c : Thread nD τ) none) Set.univ
          (k0_part12 xM (Memref.isWhole_whole _) oM (Memref.isWhole_whole _) scrM (Memref.isWhole_whole _) cc0_scratch1 cc0_scratch2 c w (regs X c 30).b (regs X c 30).c (regs X c 30).d (regs X c 30).e (regs X c 31).a ((regs X c 30).c1 (col X c 30)) (regs X c 31).b) Q := by
  rw [k0_part12_eq_skeleton]; unfold k0_part12_skel
  simp only [Prog.lift, Prog.bind_op, Prog.bind_ret, Prog.pure_eq_ret]
  iintro ⟨Hx, Hk⟩
  iapply (step_load X c 31 (k0_off32_eq c)) $$ Hx; iintro Hx
  ihave H := Hk $$ Hx
  iapply (finish ?_) $$ H
  rfl

theorem part13 {Q : _ → sProp 𝕄} :
    iprop(xOwn c X ∗ (xOwn c X -∗ Q ⟨(ext (cand X c) 5), (ext (cand X c) 6), (ext (cand X c) 7), (ext (cand X c) 8), (ext (cand X c) 9), (ext (cand X c) 10), (ext (cand X c) 11), (ext (cand X c) 12), (spread (ext (cand X c) 12))⟩))
      ⊢ wp frame (wpE (defs₀ (F := F)) 𝒱₀ (c : Thread nD τ) none) Set.univ
          (k0_part13 xM (Memref.isWhole_whole _) oM (Memref.isWhole_whole _) scrM (Memref.isWhole_whole _) cc0_scratch1 cc0_scratch2 (cand X c) (below (cand X c) (ext (cand X c) 4))) Q := by
  rw [k0_part13_eq_skeleton]; unfold k0_part13_skel
  simp only [Prog.lift, Prog.bind_op, Prog.bind_ret, Prog.pure_eq_ret]
  iintro ⟨Hx, Hk⟩
  ihave H := Hk $$ Hx
  iapply (finish ?_) $$ H
  rfl

end Cert.Exchange

end
-- ==== Proof.Parts.lean ====
/-
# The exchange, part by part

Each part of the kernel that signals, transfers or waits, run by the rules of the exchange.
-/
module

public import proofs.«01_k».proof.Proof.Columns

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The devices and semaphores as the kernel names them -/

theorem dev1_eq (c : Dev nD) : (⟨k0_dev1 c, k0_dev1_lt c⟩ : Dev nD) = peer 0 c := by revert c; decide +kernel
theorem dev2_eq (c : Dev nD) : (⟨k0_dev2 c, k0_dev2_lt c⟩ : Dev nD) = peer 1 c := by revert c; decide +kernel
theorem dev3_eq (c : Dev nD) : (⟨k0_dev3 c, k0_dev3_lt c⟩ : Dev nD) = peer 2 c := by revert c; decide +kernel
theorem dev4_eq (c : Dev nD) : (⟨k0_dev4 c, k0_dev4_lt c⟩ : Dev nD) = peer 3 c := by revert c; decide +kernel
theorem dev5_eq (c : Dev nD) : (⟨k0_dev5 c, k0_dev5_lt c⟩ : Dev nD) = peer 4 c := by revert c; decide +kernel
theorem dev6_eq (c : Dev nD) : (⟨k0_dev6 c, k0_dev6_lt c⟩ : Dev nD) = peer 5 c := by revert c; decide +kernel
theorem dev7_eq (c : Dev nD) : (⟨k0_dev7 c, k0_dev7_lt c⟩ : Dev nD) = peer 6 c := by revert c; decide +kernel
theorem dev8_eq (c : Dev nD) : (⟨k0_dev8 c, k0_dev8_lt c⟩ : Dev nD) = peer 0 c := by revert c; decide +kernel
theorem dev9_eq (c : Dev nD) : (⟨k0_dev9 c, k0_dev9_lt c⟩ : Dev nD) = peer 1 c := by revert c; decide +kernel
theorem dev10_eq (c : Dev nD) : (⟨k0_dev10 c, k0_dev10_lt c⟩ : Dev nD) = peer 2 c := by revert c; decide +kernel
theorem dev11_eq (c : Dev nD) : (⟨k0_dev11 c, k0_dev11_lt c⟩ : Dev nD) = peer 3 c := by revert c; decide +kernel
theorem dev12_eq (c : Dev nD) : (⟨k0_dev12 c, k0_dev12_lt c⟩ : Dev nD) = peer 4 c := by revert c; decide +kernel
theorem dev13_eq (c : Dev nD) : (⟨k0_dev13 c, k0_dev13_lt c⟩ : Dev nD) = peer 5 c := by revert c; decide +kernel
theorem dev14_eq (c : Dev nD) : (⟨k0_dev14 c, k0_dev14_lt c⟩ : Dev nD) = peer 6 c := by revert c; decide +kernel
theorem send_sem0 : ((cc0_scratch1.slice (Rect.unit (s := S7) ![0] S1.size inb_S7_S1_0)).squeeze S_ squeezes_S1_S_).sem = dS (jS 0) := rfl
theorem recv_sem0 : ((cc0_scratch2.slice (Rect.unit (s := S7) ![0] S1.size inb_S7_S1_0)).squeeze S_ squeezes_S1_S_).sem = dS (jR 0) := rfl
theorem send_sem1 : ((cc0_scratch1.slice (Rect.unit (s := S7) ![1] S1.size inb_S7_S1_1)).squeeze S_ squeezes_S1_S_).sem = dS (jS 1) := rfl
theorem recv_sem1 : ((cc0_scratch2.slice (Rect.unit (s := S7) ![1] S1.size inb_S7_S1_1)).squeeze S_ squeezes_S1_S_).sem = dS (jR 1) := rfl
theorem send_sem2 : ((cc0_scratch1.slice (Rect.unit (s := S7) ![2] S1.size inb_S7_S1_2)).squeeze S_ squeezes_S1_S_).sem = dS (jS 2) := rfl
theorem recv_sem2 : ((cc0_scratch2.slice (Rect.unit (s := S7) ![2] S1.size inb_S7_S1_2)).squeeze S_ squeezes_S1_S_).sem = dS (jR 2) := rfl
theorem send_sem3 : ((cc0_scratch1.slice (Rect.unit (s := S7) ![3] S1.size inb_S7_S1_3)).squeeze S_ squeezes_S1_S_).sem = dS (jS 3) := rfl
theorem recv_sem3 : ((cc0_scratch2.slice (Rect.unit (s := S7) ![3] S1.size inb_S7_S1_3)).squeeze S_ squeezes_S1_S_).sem = dS (jR 3) := rfl
theorem send_sem4 : ((cc0_scratch1.slice (Rect.unit (s := S7) ![4] S1.size inb_S7_S1_4)).squeeze S_ squeezes_S1_S_).sem = dS (jS 4) := rfl
theorem recv_sem4 : ((cc0_scratch2.slice (Rect.unit (s := S7) ![4] S1.size inb_S7_S1_4)).squeeze S_ squeezes_S1_S_).sem = dS (jR 4) := rfl
theorem send_sem5 : ((cc0_scratch1.slice (Rect.unit (s := S7) ![5] S1.size inb_S7_S1_5)).squeeze S_ squeezes_S1_S_).sem = dS (jS 5) := rfl
theorem recv_sem5 : ((cc0_scratch2.slice (Rect.unit (s := S7) ![5] S1.size inb_S7_S1_5)).squeeze S_ squeezes_S1_S_).sem = dS (jR 5) := rfl
theorem send_sem6 : ((cc0_scratch1.slice (Rect.unit (s := S7) ![6] S1.size inb_S7_S1_6)).squeeze S_ squeezes_S1_S_).sem = dS (jS 6) := rfl
theorem recv_sem6 : ((cc0_scratch2.slice (Rect.unit (s := S7) ![6] S1.size inb_S7_S1_6)).squeeze S_ squeezes_S1_S_).sem = dS (jR 6) := rfl

variable (G : Contents F) (K : Dev nD × Option (Fin 14) → ℕ) (X : Block F) (c : Dev nD)

/-! ## The signals -/

abbrev bars : Sems sig S_ := SemArray.scalar (sig.barrier 0 rfl)

theorem part1 {Q : _ → sProp 𝕄} :
    iprop(records G K ∗ (owesE c (OB c 0 + OR c 0) ∗ sigB (F := F) c 0)
        ∗ (∀ v2 : BitVec 32, ∀ v5 : BitVec 32, ∀ w : BitVec 32, ∀ w' : BitVec 32, ∀ w'' : BitVec 32, (owesE c (OB c 1 + OR c 0) ∗ sigB (F := F) c 1) -∗ Q ⟨c, v2, v5, zword c, bars, w, w', w''⟩))
      ⊢ wp frame (wpE (defs₀ (F := F)) 𝒱₀ (c : Thread nD τ) none) Set.univ
          (k0_part1 xM (Memref.isWhole_whole _) oM (Memref.isWhole_whole _) scrM (Memref.isWhole_whole _) cc0_scratch1 cc0_scratch2 ) Q := by
  rw [k0_part1_eq_skeleton]; unfold k0_part1_skel
  simp only [semSignalWord, semWaitWord, Prog.lift, Prog.bind_op, Prog.bind_ret, Prog.pure_eq_ret, wp_deviceId]
  iintro ⟨#HR, ⟨HO, Hs⟩, Hk⟩
  iapply (step_signal G K c 0 0 1 rfl rfl (dev1_eq c) rfl) $$ [HO Hs]
  · isplitr; · iexact HR
    isplitl [HO] <;> iassumption
  iintro ⟨HO, Hs⟩
  ihave H := Hk $$ [HO Hs]
  · isplitl [HO] <;> iassumption
  iapply (finish ?_) $$ H
  rfl

theorem part2 (v2 v5 v8 v31 v32 c2_i32_20 : BitVec 32) {Q : _ → sProp 𝕄} :
    iprop(records G K ∗ (owesE c (OB c 1 + OR c 0) ∗ sigB (F := F) c 1)
        ∗ (∀ r, (owesE c (OB c 3 + OR c 0) ∗ sigB (F := F) c 3) -∗ Q r))
      ⊢ wp frame (wpE (defs₀ (F := F)) 𝒱₀ (c : Thread nD τ) none) Set.univ
          (k0_part2 xM (Memref.isWhole_whole _) oM (Memref.isWhole_whole _) scrM (Memref.isWhole_whole _) cc0_scratch1 cc0_scratch2 c v2 v5 v8 bars v31 v32 c2_i32_20) Q := by
  rw [k0_part2_eq_skeleton]; unfold k0_part2_skel
  simp only [semSignalWord, semWaitWord, Prog.lift, Prog.bind_op, Prog.bind_ret, Prog.pure_eq_ret, wp_deviceId]
  iintro ⟨#HR, ⟨HO, Hs⟩, Hk⟩
  iapply (step_signal G K c 1 1 2 rfl rfl (dev2_eq c) rfl) $$ [HO Hs]
  · isplitr; · iexact HR
    isplitl [HO] <;> iassumption
  iintro ⟨HO, Hs⟩
  iapply (step_signal G K c 2 2 3 rfl rfl (dev3_eq c) rfl) $$ [HO Hs]
  · isplitr; · iexact HR
    isplitl [HO] <;> iassumption
  iintro ⟨HO, Hs⟩
  ihave H := Hk $$ [HO Hs]
  · isplitl [HO] <;> iassumption
  iapply (finish ?_) $$ H
  rfl

theorem part3 (v2 v5 v8 v64 v65 : BitVec 32) {Q : _ → sProp 𝕄} :
    iprop(records G K ∗ (owesE c (OB c 3 + OR c 0) ∗ sigB (F := F) c 3)
        ∗ (∀ r, (owesE c (OB c 4 + OR c 0) ∗ sigB (F := F) c 4) -∗ Q r))
      ⊢ wp frame (wpE (defs₀ (F := F)) 𝒱₀ (c : Thread nD τ) none) Set.univ
          (k0_part3 xM (Memref.isWhole_whole _) oM (Memref.isWhole_whole _) scrM (Memref.isWhole_whole _) cc0_scratch1 cc0_scratch2 c v2 v5 v8 bars v64 v65) Q := by
  rw [k0_part3_eq_skeleton]; unfold k0_part3_skel
  simp only [semSignalWord, semWaitWord, Prog.lift, Prog.bind_op, Prog.bind_ret, Prog.pure_eq_ret, wp_deviceId]
  iintro ⟨#HR, ⟨HO, Hs⟩, Hk⟩
  iapply (step_signal G K c 3 3 4 rfl rfl (dev4_eq c) rfl) $$ [HO Hs]
  · isplitr; · iexact HR
    isplitl [HO] <;> iassumption
  iintro ⟨HO, Hs⟩
  ihave H := Hk $$ [HO Hs]
  · isplitl [HO] <;> iassumption
  iapply (finish ?_) $$ H
  rfl

theorem part4 (v2 v5 v8 v97 v98 : BitVec 32) {Q : _ → sProp 𝕄} :
    iprop(records G K ∗ (owesE c (OB c 4 + OR c 0) ∗ sigB (F := F) c 4)
        ∗ (∀ r, (owesE c (OB c 6 + OR c 0) ∗ sigB (F := F) c 6) -∗ Q r))
      ⊢ wp frame (wpE (defs₀ (F := F)) 𝒱₀ (c : Thread nD τ) none) Set.univ
          (k0_part4 xM (Memref.isWhole_whole _) oM (Memref.isWhole_whole _) scrM (Memref.isWhole_whole _) cc0_scratch1 cc0_scratch2 c v2 v5 v8 bars v97 v98) Q := by
  rw [k0_part4_eq_skeleton]; unfold k0_part4_skel
  simp only [semSignalWord, semWaitWord, Prog.lift, Prog.bind_op, Prog.bind_ret, Prog.pure_eq_ret, wp_deviceId]
  iintro ⟨#HR, ⟨HO, Hs⟩, Hk⟩
  iapply (step_signal G K c 4 4 5 rfl rfl (dev5_eq c) rfl) $$ [HO Hs]
  · isplitr; · iexact HR
    isplitl [HO] <;> iassumption
  iintro ⟨HO, Hs⟩
  iapply (step_signal G K c 5 5 6 rfl rfl (dev6_eq c) rfl) $$ [HO Hs]
  · isplitr; · iexact HR
    isplitl [HO] <;> iassumption
  iintro ⟨HO, Hs⟩
  ihave H := Hk $$ [HO Hs]
  · isplitl [HO] <;> iassumption
  iapply (finish ?_) $$ H
  rfl

theorem part5 (v2 v5 v125 v129 v130 c0_i32_97 : BitVec 32) {Q : _ → sProp 𝕄} :
    iprop(records G K ∗ (owesE c (OB c 6 + OR c 0) ∗ sigB (F := F) c 6 ∗ xOwn c X)
        ∗ (∀ w : BitVec 32, ∀ w' : BitVec 32, (owesE c (OB c 7 + OR c 0) ∗ sigB (F := F) c 7 ∗ xOwn c X) -∗ Q ⟨w, w', (regs X c 2).d, (regs X c 2).e, (regs X c 3).a, (regs X c 3).b, (regs X c 3).c, ((regs X c 2).c3 (col X c 2)), (regs X c 3).d⟩))
      ⊢ wp frame (wpE (defs₀ (F := F)) 𝒱₀ (c : Thread nD τ) none) Set.univ
          (k0_part5 xM (Memref.isWhole_whole _) oM (Memref.isWhole_whole _) scrM (Memref.isWhole_whole _) cc0_scratch1 cc0_scratch2 c v2 v5 bars v125 v129 v130 c0_i32_97) Q := by
  rw [k0_part5_eq_skeleton]; unfold k0_part5_skel
  simp only [semSignalWord, semWaitWord, Prog.lift, Prog.bind_op, Prog.bind_ret, Prog.pure_eq_ret, wp_deviceId]
  iintro ⟨#HR, ⟨HO, Hs, Hx⟩, Hk⟩
  iapply (step_signal G K c 6 6 7 rfl rfl (dev7_eq c) rfl) $$ [HO Hs]
  · isplitr; · iexact HR
    isplitl [HO] <;> iassumption
  iintro ⟨HO, Hs⟩
  iapply (step_load X c 0 (k0_off1_eq c)) $$ Hx; iintro Hx
  iapply (step_load X c 1 (k0_off2_eq c)) $$ Hx; iintro Hx
  iapply (step_load X c 2 (k0_off3_eq c)) $$ Hx; iintro Hx
  ihave H := Hk $$ [HO Hs Hx]
  · isplitl [HO]; · iexact HO
    isplitl [Hs] <;> iassumption
  iapply (finish ?_) $$ H
  rfl

/-! ## The store of the slot and the barrier wait -/

/-- The slot's rectangle, as the loads and the store name it. -/
abbrev slotRect (d : Dev nD) : Rect S2x4x128x16 := Rect.unit (s := S2x4x128x16) (k0_off33 d) S1x1x128x16.size (k0_off33_inb d)

theorem slotRect_set (d : Dev nD) : ((scrM : Memref sig .tc .vmem S2x4x128x16 .f32).access (slotRect d)).set = (slotM d).view.set := by
  rw [Memref.set_view_squeeze]
  rfl

/-- What device `d`'s store leaves in its slot. -/
abbrev stored (d : Dev nD) (f : Contents F) (v : FVec F S1x1x128x16 .f32) : Contents F :=
  ((scrM : Memref sig .tc .vmem S2x4x128x16 .f32).access (slotRect d)).write (Elt F) f v Finset.univ

theorem stored_at (d : Dev nD) (f f' : Contents F) (v : FVec F S1x1x128x16 .f32) (i : S2x4x128x16.Idx) (hi : i ∈ (slotM d).view.set) :
    stored d f v i = stored d f' v i := by
  rw [← slotRect_set] at hi
  obtain ⟨x, -, rfl⟩ := Finset.mem_map.mp hi
  unfold stored
  rw [View.write_emb_of_mem _ _ (Finset.mem_univ x), View.write_emb_of_mem _ _ (Finset.mem_univ x)]

/-- What all devices come to share: in each slot what its device stores there. -/
def shared (X : Dev nD → Block F) : Contents F := fun i : S2x4x128x16.Idx =>
  let d : Dev nD := ⟨2 * (i 1).val + (i 0).val, by have h0 : (i 0).val < 2 := (i 0).isLt; have h1 : (i 1).val < 4 := (i 1).isLt; show _ < 8; omega⟩
  stored d (fun _ => low) (slotVal (X d) d) i

theorem shared_at (X : Dev nD → Block F) (d : Dev nD) (f : Contents F) (i : S2x4x128x16.Idx) (hi : i ∈ (slotM d).view.set) :
    stored d f (slotVal (X d) d) i = shared X i := by
  obtain ⟨h0, h1⟩ := (slot_mem d i).mp hi
  have hd : ∀ (e : Dev nD), e = d → stored d f (slotVal (X d) d) i = stored e (fun _ => low) (slotVal (X e) e) i := by
    rintro e rfl; exact stored_at _ _ _ _ _ hi
  exact hd _ (Fin.ext (by show 2 * (i 1).val + (i 0).val = d.val; omega))

/-- What stands ready for the transfers once the peers have signalled. -/
def toksB (c : Dev nD) : sProp 𝕄 :=
  bigSep Finset.univ fun k : Fin 7 => iprop(dutyTok ER (dCell c (jS k)) 0 0 ∗ dutyTok ER (dCell (peer k c) (jR k)) 0 0)

theorem sends_ready : iprop(toksB (F := F) c ∗ bigSep Finset.univ fun k => barPay (F := F) c k) ⊢ sndB (F := F) c 0 := by
  unfold toksB sndB
  rw [show (from_ 0 : Finset (Fin 7)) = Finset.univ from from_zero]
  rw [← bigSep_sep']
  refine bigSep_mono fun k _ => ?_
  show (iprop((dutyTok ER (dCell c (jS k)) 0 0 ∗ dutyTok ER (dCell (peer k c) (jR k)) 0 0) ∗ barPay c k) : sProp 𝕄)
    ⊢ iprop(dutyTok ER (dCell c (jS k)) 0 0 ∗ dutyTok ER (dCell (peer k c) (jR k)) 0 0 ∗ barPay c k)
  iintro ⟨⟨Ha, Hb⟩, Hc⟩
  isplitl [Ha]; · iexact Ha
  isplitl [Hb] <;> iassumption

theorem cr_none : (emp : sProp 𝕄) ⊢ crB (F := F) c 0 := by
  unfold crB; rw [upto_zero, bigSep_empty]; exact BI.Entails.refl _

omit [FloatOps F] in
/-- The device's own slot, as its loads and its store see it. -/
theorem slot_access (q : PosShare TreeShare) (f : Contents F) :
    slotPts c c q f = (((scrM : Memref sig .tc .vmem S2x4x128x16 .f32).access (slotRect c)).loc (c : Thread nD τ)
      ↦[((scrM : Memref sig .tc .vmem S2x4x128x16 .f32).access (slotRect c)).set]{q} f : sProp 𝕄) := by
  unfold slotPts; rw [slotRect_set]

/-- The load of the device's slot, whose value is not used. -/
theorem step_load_slot (f : Contents F)
    {hl : (scrM : Memref sig .tc .vmem S2x4x128x16 .f32).view.LoadsAt (slotRect c).toLoadRect}
    {α : Type} {Q : α → sProp 𝕄} {kk : Vec F S1x1x128x16 .f32 → Prog (TpuEff nD τ sig (Elt F) Λ₀ .tc) α} :
    slotPts c c fullShare f ⊢ iprop((∀ v, slotPts c c fullShare f -∗ wp frame (wpE (defs₀ (F := F)) 𝒱₀ (c : Thread nD τ) none) Set.univ (kk v) Q)
      -∗ wp frame (wpE (defs₀ (F := F)) 𝒱₀ (c : Thread nD τ) none) Set.univ (.op (.load scrM (slotRect c).toLoadRect hl) kk) Q) := by
  rw [slot_access]
  iintro Hs Hk
  iapply (wp_load_rect 𝒱₀ (c : Thread nD τ) none Set.univ (m := scrM) (r := slotRect c) (Finset.Subset.refl _)) $$ Hs
  iapply Hk

/-- A store to the device's slot. -/
theorem step_store_any (f : Contents F) (w : FVec F S1x1x128x16 .f32)
    {hx : ((scrM : Memref sig .tc .vmem S2x4x128x16 .f32).access (slotRect c)).Stores Finset.univ}
    {hm : (Finset.univ : Finset (slotRect c).shape.Idx) = Finset.univ ∨ ∀ a, (slotRect c).stride a = 1}
    {α : Type} {Q : α → sProp 𝕄} {kk : PUnit → Prog (TpuEff nD τ sig (Elt F) Λ₀ .tc) α} :
    slotPts c c fullShare f ⊢ iprop((slotPts c c fullShare (stored c f w) -∗ wp frame (wpE (defs₀ (F := F)) 𝒱₀ (c : Thread nD τ) none) Set.univ (kk ⟨⟩) Q)
      -∗ wp frame (wpE (defs₀ (F := F)) 𝒱₀ (c : Thread nD τ) none) Set.univ (.op (.store scrM (slotRect c) w Finset.univ hx hm) kk) Q) := by
  rw [slot_access, slot_access]
  iintro Hs Hk
  iapply (wp_store 𝒱₀ (c : Thread nD τ) none Set.univ (m := scrM) (r := slotRect c) (w := w) (Mk := Finset.univ)
    (S := ((scrM : Memref sig .tc .vmem S2x4x128x16 .f32).access (slotRect c)).set) (by rw [View.setOn_univ])) $$ Hs
  iexact Hk

/-- The store to the device's slot. -/
theorem step_store_slot (X : Dev nD → Block F) (f : Contents F)
    {hx : ((scrM : Memref sig .tc .vmem S2x4x128x16 .f32).access (slotRect c)).Stores Finset.univ}
    {hm : (Finset.univ : Finset (slotRect c).shape.Idx) = Finset.univ ∨ ∀ a, (slotRect c).stride a = 1}
    {α : Type} {Q : α → sProp 𝕄} {kk : PUnit → Prog (TpuEff nD τ sig (Elt F) Λ₀ .tc) α} :
    slotPts c c fullShare f ⊢ iprop((slotPts c c (tail 0) (shared X) -∗ wp frame (wpE (defs₀ (F := F)) 𝒱₀ (c : Thread nD τ) none) Set.univ (kk ⟨⟩) Q)
      -∗ wp frame (wpE (defs₀ (F := F)) 𝒱₀ (c : Thread nD τ) none) Set.univ (.op (.store scrM (slotRect c) (slotVal (X c) c) Finset.univ hx hm) kk) Q) := by
  have h : slotPts c c (tail 0) (shared X) = slotPts c c fullShare (stored c f (slotVal (X c) c)) :=
    pointsTo_congr fun i hi => (shared_at X c f i hi).symm
  rw [h]
  exact step_store_any c f (slotVal (X c) c)

/-- The store of the sixteen largest to the device's slot, and the barrier wait. -/
theorem part14 (X : Dev nD → Block F) (v2 v5 w : BitVec 32) {Q : _ → sProp 𝕄} :
    iprop(records (shared X) K ∗ levAts L lv ∗ owesE c (OB c 7 + OR c 0) ∗ (∃ f : Contents F, slotPts c c fullShare f)
        ∗ cred (tallyAt (barCell c) () 7) ∗ atPos ER (barCell c) 0 ∅ 0 ∗ toksB (F := F) c
        ∗ (∀ r, (semVal (barCell c) 0 ∗ owesE c (OR c 0) ∗ sndB (F := F) c 0 ∗ slotPts c c (tail 0) (shared X) ∗ crB (F := F) c 0) -∗ Q r))
      ⊢ wp frame (wpE (defs₀ (F := F)) 𝒱₀ (c : Thread nD τ) none) Set.univ
          (k0_part14 xM (Memref.isWhole_whole _) oM (Memref.isWhole_whole _) scrM (Memref.isWhole_whole _) cc0_scratch1 cc0_scratch2 c v2 v5 (zword c) bars w (cand (X c) c) (ext (cand (X c) c) 0) (ext (cand (X c) c) 1) (ext (cand (X c) c) 2) (ext (cand (X c) c) 3) (ext (cand (X c) c) 4) (ext (cand (X c) c) 5) (ext (cand (X c) c) 6) (ext (cand (X c) c) 7) (ext (cand (X c) c) 8) (ext (cand (X c) c) 9) (ext (cand (X c) c) 10) (ext (cand (X c) c) 11) (ext (cand (X c) c) 12) (spread (ext (cand (X c) c) 12))) Q := by
  rw [k0_part14_eq_skeleton]; unfold k0_part14_skel
  simp only [semSignalWord, semWaitWord, Prog.lift, Prog.bind_op, Prog.bind_ret, Prog.pure_eq_ret, wp_deviceId]
  iintro ⟨#HR, #Hlev, HO, ⟨%f, Hs⟩, Hc, Hat, Ht, Hk⟩
  iapply (step_load_slot c f) $$ Hs; iintro %u Hs
  iapply (step_store_slot c X f) $$ Hs; iintro Hs
  iapply (step_barrier (shared X) K c rfl) $$ [HO Hc Hat]
  · isplitr; · iexact HR
    isplitr; · iexact Hlev
    isplitl [HO]; · iexact HO
    isplitl [Hc] <;> iassumption
  iintro ⟨HO, Hz, Hp⟩
  ihave Hd := (sends_ready (F := F) c) $$ [Ht Hp]
  · isplitl [Ht] <;> iassumption
  rw [wp_ret]; imodintro
  iapply Hk
  isplitl [Hz]; · iexact Hz
  isplitl [HO]; · iexact HO
  isplitl [Hd]; · iexact Hd
  isplitl [Hs]; · iexact Hs
  iapply (cr_none (F := F) c); iempintro

/-! ## The transfers -/

/-- What a device is dealt for its waits: its positions, and the credit of what its peers will send it. -/
def recvB (c : Dev nD) : sProp 𝕄 :=
  iprop((bigSep Finset.univ fun j : Fin 14 => atPos ER (dCell c j) 0 ∅ 0) ∗ bigSep Finset.univ fun k : Fin 7 => cred (tallyAt (dCell c (jR k)) () N))

/-- What holds of the sends and of the receipts holds of all fourteen, and back. -/
theorem all14 (Φ : Fin 14 → sProp 𝕄) :
    bigSep Finset.univ Φ = iprop((bigSep Finset.univ fun k : Fin 7 => Φ (jS k)) ∗ bigSep Finset.univ fun k : Fin 7 => Φ (jR k)) := by
  have h : (Finset.univ : Finset (Fin 14)) = (Finset.univ.map ⟨jS, fun a b h => by revert a b; decide⟩) ∪ (Finset.univ.map ⟨jR, fun a b h => jR_inj h⟩) := by decide
  rw [h, bigSep_union (by decide), bigSep_map, bigSep_map]; rfl
theorem split14 (Φ : Fin 14 → sProp 𝕄) :
    iprop((bigSep Finset.univ fun k : Fin 7 => Φ (jS k)) ∗ bigSep Finset.univ fun k : Fin 7 => Φ (jR k)) ⊢ bigSep Finset.univ Φ := Entails.of_eq (all14 Φ).symm

theorem waits_ready : iprop(crB (F := F) c 7 ∗ recvB c) ⊢ waitB (F := F) c 0 := by
  unfold crB recvB waitB waitOne
  rw [show (upto 7 : Finset (Fin 7)) = Finset.univ from upto_end, show (from_ 0 : Finset (Fin 14)) = Finset.univ from from_zero, bigSep_sep']
  iintro ⟨Hc, Ha, Hr⟩
  isplitl [Hc Hr]
  · iapply (split14 fun j => (cred (tallyAt (dCell c j) () N) : sProp 𝕄))
    isplitl [Hc] <;> iassumption
  iexact Ha

theorem done_none : (emp : sProp 𝕄) ⊢ doneB G c 0 := by
  unfold doneB; rw [upto_zero, bigSep_empty]; exact BI.Entails.refl _

theorem part15 (v2 v5 v8 v633 v637 v641 : BitVec 32) {Q : _ → sProp 𝕄} :
    iprop(records G K ∗ (owesE c (OR c 0) ∗ sndB (F := F) c 0 ∗ slotPts c c (tail 0) G ∗ crB (F := F) c 0) ∗ (∀ r, (owesE c (OR c 1) ∗ sndB (F := F) c 1 ∗ slotPts c c (tail 1) G ∗ crB (F := F) c 1) -∗ Q r))
      ⊢ wp frame (wpE (defs₀ (F := F)) 𝒱₀ (c : Thread nD τ) none) Set.univ
          (k0_part15 xM (Memref.isWhole_whole _) oM (Memref.isWhole_whole _) scrM (Memref.isWhole_whole _) cc0_scratch1 cc0_scratch2 c v2 v5 v8 v633 v637 v641) Q := by
  rw [k0_part15_eq_skeleton]; unfold k0_part15_skel
  simp only [semSignalWord, semWaitWord, Prog.lift, Prog.bind_op, Prog.bind_ret, Prog.pure_eq_ret, wp_deviceId]
  iintro ⟨#HR, ⟨HO, Hs, Ho, Hc⟩, Hk⟩
  iapply (step_send G K c 0 0 1 rfl rfl (dev8_eq c) send_sem0 recv_sem0) $$ [HO Hs Ho Hc]
  · isplitr; · iexact HR
    isplitl [HO]; · iexact HO
    isplitl [Hs]; · iexact Hs
    isplitl [Ho] <;> iassumption
  iintro ⟨HO, Hs, Ho, Hc⟩
  rw [wp_ret]; imodintro
  iapply Hk
  isplitl [HO]; · iexact HO
  isplitl [Hs]; · iexact Hs
  isplitl [Ho] <;> iassumption

theorem part16 (v2 v5 v8 : BitVec 32) {Q : _ → sProp 𝕄} :
    iprop(records G K ∗ (owesE c (OR c 1) ∗ sndB (F := F) c 1 ∗ slotPts c c (tail 1) G ∗ crB (F := F) c 1) ∗ (∀ r, (owesE c (OR c 3) ∗ sndB (F := F) c 3 ∗ slotPts c c (tail 3) G ∗ crB (F := F) c 3) -∗ Q r))
      ⊢ wp frame (wpE (defs₀ (F := F)) 𝒱₀ (c : Thread nD τ) none) Set.univ
          (k0_part16 xM (Memref.isWhole_whole _) oM (Memref.isWhole_whole _) scrM (Memref.isWhole_whole _) cc0_scratch1 cc0_scratch2 c v2 v5 v8) Q := by
  rw [k0_part16_eq_skeleton]; unfold k0_part16_skel
  simp only [semSignalWord, semWaitWord, Prog.lift, Prog.bind_op, Prog.bind_ret, Prog.pure_eq_ret, wp_deviceId]
  iintro ⟨#HR, ⟨HO, Hs, Ho, Hc⟩, Hk⟩
  iapply (step_send G K c 1 1 2 rfl rfl (dev9_eq c) send_sem1 recv_sem1) $$ [HO Hs Ho Hc]
  · isplitr; · iexact HR
    isplitl [HO]; · iexact HO
    isplitl [Hs]; · iexact Hs
    isplitl [Ho] <;> iassumption
  iintro ⟨HO, Hs, Ho, Hc⟩
  iapply (step_send G K c 2 2 3 rfl rfl (dev10_eq c) send_sem2 recv_sem2) $$ [HO Hs Ho Hc]
  · isplitr; · iexact HR
    isplitl [HO]; · iexact HO
    isplitl [Hs]; · iexact Hs
    isplitl [Ho] <;> iassumption
  iintro ⟨HO, Hs, Ho, Hc⟩
  rw [wp_ret]; imodintro
  iapply Hk
  isplitl [HO]; · iexact HO
  isplitl [Hs]; · iexact Hs
  isplitl [Ho] <;> iassumption

theorem part17 (v2 v5 v8 v708 c2_i32_197 : BitVec 32) {Q : _ → sProp 𝕄} :
    iprop(records G K ∗ (owesE c (OR c 3) ∗ sndB (F := F) c 3 ∗ slotPts c c (tail 3) G ∗ crB (F := F) c 3) ∗ (∀ r, (owesE c (OR c 4) ∗ sndB (F := F) c 4 ∗ slotPts c c (tail 4) G ∗ crB (F := F) c 4) -∗ Q r))
      ⊢ wp frame (wpE (defs₀ (F := F)) 𝒱₀ (c : Thread nD τ) none) Set.univ
          (k0_part17 xM (Memref.isWhole_whole _) oM (Memref.isWhole_whole _) scrM (Memref.isWhole_whole _) cc0_scratch1 cc0_scratch2 c v2 v5 v8 v708 c2_i32_197) Q := by
  rw [k0_part17_eq_skeleton]; unfold k0_part17_skel
  simp only [semSignalWord, semWaitWord, Prog.lift, Prog.bind_op, Prog.bind_ret, Prog.pure_eq_ret, wp_deviceId]
  iintro ⟨#HR, ⟨HO, Hs, Ho, Hc⟩, Hk⟩
  iapply (step_send G K c 3 3 4 rfl rfl (dev11_eq c) send_sem3 recv_sem3) $$ [HO Hs Ho Hc]
  · isplitr; · iexact HR
    isplitl [HO]; · iexact HO
    isplitl [Hs]; · iexact Hs
    isplitl [Ho] <;> iassumption
  iintro ⟨HO, Hs, Ho, Hc⟩
  rw [wp_ret]; imodintro
  iapply Hk
  isplitl [HO]; · iexact HO
  isplitl [Hs]; · iexact Hs
  isplitl [Ho] <;> iassumption

theorem part18 (v2 v5 v8 v737 v741 v742 c2_i32_221 : BitVec 32) {Q : _ → sProp 𝕄} :
    iprop(records G K ∗ (owesE c (OR c 4) ∗ sndB (F := F) c 4 ∗ slotPts c c (tail 4) G ∗ crB (F := F) c 4) ∗ (∀ r, (owesE c (OR c 5) ∗ sndB (F := F) c 5 ∗ slotPts c c (tail 5) G ∗ crB (F := F) c 5) -∗ Q r))
      ⊢ wp frame (wpE (defs₀ (F := F)) 𝒱₀ (c : Thread nD τ) none) Set.univ
          (k0_part18 xM (Memref.isWhole_whole _) oM (Memref.isWhole_whole _) scrM (Memref.isWhole_whole _) cc0_scratch1 cc0_scratch2 c v2 v5 v8 v737 v741 v742 c2_i32_221) Q := by
  rw [k0_part18_eq_skeleton]; unfold k0_part18_skel
  simp only [semSignalWord, semWaitWord, Prog.lift, Prog.bind_op, Prog.bind_ret, Prog.pure_eq_ret, wp_deviceId]
  iintro ⟨#HR, ⟨HO, Hs, Ho, Hc⟩, Hk⟩
  iapply (step_send G K c 4 4 5 rfl rfl (dev12_eq c) send_sem4 recv_sem4) $$ [HO Hs Ho Hc]
  · isplitr; · iexact HR
    isplitl [HO]; · iexact HO
    isplitl [Hs]; · iexact Hs
    isplitl [Ho] <;> iassumption
  iintro ⟨HO, Hs, Ho, Hc⟩
  rw [wp_ret]; imodintro
  iapply Hk
  isplitl [HO]; · iexact HO
  isplitl [Hs]; · iexact Hs
  isplitl [Ho] <;> iassumption

theorem part19 (v2 v5 v8 v771 v775 c1_i32_246 : BitVec 32) {Q : _ → sProp 𝕄} :
    iprop(records G K ∗ (owesE c (OR c 5) ∗ sndB (F := F) c 5 ∗ slotPts c c (tail 5) G ∗ crB (F := F) c 5) ∗ (∀ r, (owesE c (OR c 6) ∗ sndB (F := F) c 6 ∗ slotPts c c (tail 6) G ∗ crB (F := F) c 6) -∗ Q r))
      ⊢ wp frame (wpE (defs₀ (F := F)) 𝒱₀ (c : Thread nD τ) none) Set.univ
          (k0_part19 xM (Memref.isWhole_whole _) oM (Memref.isWhole_whole _) scrM (Memref.isWhole_whole _) cc0_scratch1 cc0_scratch2 c v2 v5 v8 v771 v775 c1_i32_246) Q := by
  rw [k0_part19_eq_skeleton]; unfold k0_part19_skel
  simp only [semSignalWord, semWaitWord, Prog.lift, Prog.bind_op, Prog.bind_ret, Prog.pure_eq_ret, wp_deviceId]
  iintro ⟨#HR, ⟨HO, Hs, Ho, Hc⟩, Hk⟩
  iapply (step_send G K c 5 5 6 rfl rfl (dev13_eq c) send_sem5 recv_sem5) $$ [HO Hs Ho Hc]
  · isplitr; · iexact HR
    isplitl [HO]; · iexact HO
    isplitl [Hs]; · iexact Hs
    isplitl [Ho] <;> iassumption
  iintro ⟨HO, Hs, Ho, Hc⟩
  rw [wp_ret]; imodintro
  iapply Hk
  isplitl [HO]; · iexact HO
  isplitl [Hs]; · iexact Hs
  isplitl [Ho] <;> iassumption

/-- The last transfer and the first three waits. What is waited on needs the credit of the sends and what was dealt at the start. -/
theorem part20 (v633 v637 v641 v659 v663 : BitVec 32) {Q : _ → sProp 𝕄} :
    iprop(records G K ∗ (owesE c (OR c 6) ∗ sndB (F := F) c 6 ∗ slotPts c c (tail 6) G ∗ crB (F := F) c 6) ∗ recvB (F := F) c ∗ (∀ r, (slotPts c c (tail 7) G ∗ owesE c 0 ∗ waitB (F := F) c 3 ∗ doneB G c 3) -∗ Q r))
      ⊢ wp frame (wpE (defs₀ (F := F)) 𝒱₀ (c : Thread nD τ) none) Set.univ
          (k0_part20 xM (Memref.isWhole_whole _) oM (Memref.isWhole_whole _) scrM (Memref.isWhole_whole _) cc0_scratch1 cc0_scratch2 c v633 v637 v641 v659 v663) Q := by
  rw [k0_part20_eq_skeleton]; unfold k0_part20_skel
  simp only [semSignalWord, semWaitWord, Prog.lift, Prog.bind_op, Prog.bind_ret, Prog.pure_eq_ret, wp_deviceId]
  iintro ⟨#HR, ⟨HO, Hs, Ho, Hc⟩, Hr, Hk⟩
  iapply (step_send G K c 6 6 7 rfl rfl (dev14_eq c) send_sem6 recv_sem6) $$ [HO Hs Ho Hc]
  · isplitr; · iexact HR
    isplitl [HO]; · iexact HO
    isplitl [Hs]; · iexact Hs
    isplitl [Ho] <;> iassumption
  iintro ⟨HO, Hs, Ho, Hc⟩
  ihave Hw := (waits_ready (F := F) c) $$ [Hc Hr]
  · isplitl [Hc] <;> iassumption
  ihave Hd : doneB G c 0 $$ []
  · iapply (done_none G c); iempintro
  rw [OR_seven]
  iapply (step_wait G K c 0 0 1 rfl rfl send_sem0) $$ [HO Hw Hd]
  · isplitr; · iexact HR
    isplitl [HO]; · iexact HO
    isplitl [Hw] <;> iassumption
  iintro ⟨HO, Hw, Hd⟩
  iapply (step_wait G K c 1 1 2 rfl rfl recv_sem0) $$ [HO Hw Hd]
  · isplitr; · iexact HR
    isplitl [HO]; · iexact HO
    isplitl [Hw] <;> iassumption
  iintro ⟨HO, Hw, Hd⟩
  iapply (step_wait G K c 2 2 3 rfl rfl send_sem1) $$ [HO Hw Hd]
  · isplitr; · iexact HR
    isplitl [HO]; · iexact HO
    isplitl [Hw] <;> iassumption
  iintro ⟨HO, Hw, Hd⟩
  rw [wp_ret]; imodintro
  iapply Hk
  isplitl [Ho]; · iexact Ho
  isplitl [HO]; · iexact HO
  isplitl [Hw] <;> iassumption

/-! ## The waits -/

theorem part21 (v667 v685 v689 v693 v837 v838 : BitVec 32) {Q : _ → sProp 𝕄} :
    iprop(records G K ∗ (owesE c 0 ∗ waitB (F := F) c 3 ∗ doneB G c 3) ∗ (∀ r, (owesE c 0 ∗ waitB (F := F) c 6 ∗ doneB G c 6) -∗ Q r))
      ⊢ wp frame (wpE (defs₀ (F := F)) 𝒱₀ (c : Thread nD τ) none) Set.univ
          (k0_part21 xM (Memref.isWhole_whole _) oM (Memref.isWhole_whole _) scrM (Memref.isWhole_whole _) cc0_scratch1 cc0_scratch2 c v667 v685 v689 v693 v837 v838) Q := by
  rw [k0_part21_eq_skeleton]; unfold k0_part21_skel
  simp only [semSignalWord, semWaitWord, Prog.lift, Prog.bind_op, Prog.bind_ret, Prog.pure_eq_ret, wp_deviceId]
  iintro ⟨#HR, ⟨HO, Hw, Hd⟩, Hk⟩
  iapply (step_wait G K c 3 3 4 rfl rfl recv_sem1) $$ [HO Hw Hd]
  · isplitr; · iexact HR
    isplitl [HO]; · iexact HO
    isplitl [Hw] <;> iassumption
  iintro ⟨HO, Hw, Hd⟩
  iapply (step_wait G K c 4 4 5 rfl rfl send_sem2) $$ [HO Hw Hd]
  · isplitr; · iexact HR
    isplitl [HO]; · iexact HO
    isplitl [Hw] <;> iassumption
  iintro ⟨HO, Hw, Hd⟩
  iapply (step_wait G K c 5 5 6 rfl rfl recv_sem2) $$ [HO Hw Hd]
  · isplitr; · iexact HR
    isplitl [HO]; · iexact HO
    isplitl [Hw] <;> iassumption
  iintro ⟨HO, Hw, Hd⟩
  rw [wp_ret]; imodintro
  iapply Hk
  isplitl [HO]; · iexact HO
  isplitl [Hw] <;> iassumption

theorem part22 (v711 v715 v719 v737 v741 v745 : BitVec 32) {Q : _ → sProp 𝕄} :
    iprop(records G K ∗ (owesE c 0 ∗ waitB (F := F) c 6 ∗ doneB G c 6) ∗ (∀ r, (owesE c 0 ∗ waitB (F := F) c 9 ∗ doneB G c 9) -∗ Q r))
      ⊢ wp frame (wpE (defs₀ (F := F)) 𝒱₀ (c : Thread nD τ) none) Set.univ
          (k0_part22 xM (Memref.isWhole_whole _) oM (Memref.isWhole_whole _) scrM (Memref.isWhole_whole _) cc0_scratch1 cc0_scratch2 c v711 v715 v719 v737 v741 v745) Q := by
  rw [k0_part22_eq_skeleton]; unfold k0_part22_skel
  simp only [semSignalWord, semWaitWord, Prog.lift, Prog.bind_op, Prog.bind_ret, Prog.pure_eq_ret, wp_deviceId]
  iintro ⟨#HR, ⟨HO, Hw, Hd⟩, Hk⟩
  iapply (step_wait G K c 6 6 7 rfl rfl send_sem3) $$ [HO Hw Hd]
  · isplitr; · iexact HR
    isplitl [HO]; · iexact HO
    isplitl [Hw] <;> iassumption
  iintro ⟨HO, Hw, Hd⟩
  iapply (step_wait G K c 7 7 8 rfl rfl recv_sem3) $$ [HO Hw Hd]
  · isplitr; · iexact HR
    isplitl [HO]; · iexact HO
    isplitl [Hw] <;> iassumption
  iintro ⟨HO, Hw, Hd⟩
  iapply (step_wait G K c 8 8 9 rfl rfl send_sem4) $$ [HO Hw Hd]
  · isplitr; · iexact HR
    isplitl [HO]; · iexact HO
    isplitl [Hw] <;> iassumption
  iintro ⟨HO, Hw, Hd⟩
  rw [wp_ret]; imodintro
  iapply Hk
  isplitl [HO]; · iexact HO
  isplitl [Hw] <;> iassumption

theorem part23 (v763 v767 v771 : BitVec 32) {Q : _ → sProp 𝕄} :
    iprop(records G K ∗ (owesE c 0 ∗ waitB (F := F) c 9 ∗ doneB G c 9) ∗ (∀ r, (owesE c 0 ∗ waitB (F := F) c 13 ∗ doneB G c 13) -∗ Q r))
      ⊢ wp frame (wpE (defs₀ (F := F)) 𝒱₀ (c : Thread nD τ) none) Set.univ
          (k0_part23 xM (Memref.isWhole_whole _) oM (Memref.isWhole_whole _) scrM (Memref.isWhole_whole _) cc0_scratch1 cc0_scratch2 c v763 v767 v771) Q := by
  rw [k0_part23_eq_skeleton]; unfold k0_part23_skel
  simp only [semSignalWord, semWaitWord, Prog.lift, Prog.bind_op, Prog.bind_ret, Prog.pure_eq_ret, wp_deviceId]
  iintro ⟨#HR, ⟨HO, Hw, Hd⟩, Hk⟩
  iapply (step_wait G K c 9 9 10 rfl rfl recv_sem4) $$ [HO Hw Hd]
  · isplitr; · iexact HR
    isplitl [HO]; · iexact HO
    isplitl [Hw] <;> iassumption
  iintro ⟨HO, Hw, Hd⟩
  iapply (step_wait G K c 10 10 11 rfl rfl send_sem5) $$ [HO Hw Hd]
  · isplitr; · iexact HR
    isplitl [HO]; · iexact HO
    isplitl [Hw] <;> iassumption
  iintro ⟨HO, Hw, Hd⟩
  iapply (step_wait G K c 11 11 12 rfl rfl recv_sem5) $$ [HO Hw Hd]
  · isplitr; · iexact HR
    isplitl [HO]; · iexact HO
    isplitl [Hw] <;> iassumption
  iintro ⟨HO, Hw, Hd⟩
  iapply (step_wait G K c 12 12 13 rfl rfl send_sem6) $$ [HO Hw Hd]
  · isplitr; · iexact HR
    isplitl [HO]; · iexact HO
    isplitl [Hw] <;> iassumption
  iintro ⟨HO, Hw, Hd⟩
  rw [wp_ret]; imodintro
  iapply Hk
  isplitl [HO]; · iexact HO
  isplitl [Hw] <;> iassumption

end Cert.Exchange

end
-- ==== Proof.Body.lean ====
/-
# The body

The parts in order: from what a device is dealt at launch to the merged result in its staging buffer.
-/
module

public import proofs.«01_k».proof.Proof.Parts

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (G : Contents F) (K : Dev nD × Option (Fin 14) → ℕ) (c : Dev nD)

/-! ## The scratch put together again -/

theorem join_one (k : Fin 7) :
    iprop(slotPts c c (tail (k.val + 1)) G ∗ bigSep (upto (k.val + 1)) fun i : Fin 7 => slotPts c c (sh i.val) G)
      ⊢ iprop(slotPts c c (tail k.val) G ∗ bigSep (upto k.val) fun i : Fin 7 => slotPts c c (sh i.val) G) := by
  rw [upto_split k]
  iintro ⟨Ht, Hs, Hr⟩
  isplitl [Ht Hs]
  · iapply (show iprop(slotPts c c (sh k.val) G ∗ slotPts c c (tail (k.val + 1)) G) ⊢ slotPts c c (tail k.val) G from
      (pointsTo_share (PosShare.mem_left_op_right (tail k.val))).2)
    isplitl [Hs] <;> iassumption
  iexact Hr

theorem join_all :
    iprop(slotPts c c (tail 7) G ∗ bigSep Finset.univ fun i : Fin 7 => slotPts c c (sh i.val) G) ⊢ slotPts c c fullShare G := by
  rw [← show (upto 7 : Finset (Fin 7)) = Finset.univ from upto_end]
  refine (join_one G c 6).trans ((join_one G c 5).trans ((join_one G c 4).trans ((join_one G c 3).trans ((join_one G c 2).trans
    ((join_one G c 1).trans ((join_one G c 0).trans ?_))))))
  iintro ⟨H, -⟩
  iexact H

/-- All transfers over: the whole scratch at the shared contents, and every transfer semaphore at zero. -/
theorem scr_joined :
    iprop(slotPts c c (tail 7) G ∗ doneB G c 14)
      ⊢ iprop((((c : Thread nD τ).loc cc0_scratch0) ↦{fullShare} G) ∗ bigSep Finset.univ fun j : Fin 14 => semVal (dCell c j) 0) := by
  unfold doneB doneOne
  rw [show (upto 14 : Finset (Fin 14)) = Finset.univ from upto_end, bigSep_sep', all14 (dPay G c), scr_slots]
  simp only [dPay_send, dPay_recv]
  iintro ⟨Ht, Hz, Hs, Hr⟩
  isplitr [Hz]
  · isplitl [Ht Hs]
    · iapply (join_all G c); isplitl [Ht] <;> iassumption
    · iexact Hr
  iexact Hz

/-! ## The two halves read -/

def half0 (G : Contents F) : Vec F S1x4x128x16 .f32 :=
  (scrM : Memref sig .tc .vmem S2x4x128x16 .f32).view.readAt (Elt F) (Rect.unit (s := S2x4x128x16) ![0, 0, 0, 0] S1x4x128x16.size inb_S2x4x128x16_S1x4x128x16_0_0_0_0).toLoadRect G
def half1 (G : Contents F) : Vec F S1x4x128x16 .f32 :=
  (scrM : Memref sig .tc .vmem S2x4x128x16 .f32).view.readAt (Elt F) (Rect.unit (s := S2x4x128x16) ![1, 0, 0, 0] S1x4x128x16.size inb_S2x4x128x16_S1x4x128x16_1_0_0_0).toLoadRect G

/-- Every device's result. -/
def outVal (X : Dev nD → Block F) : FVec F S512x16 .f32 := merged (half0 (shared X)) (half1 (shared X))

/-- The last wait and the loads of the two halves. -/
theorem part24 (v789 v793 v797 c4_i32_380 : BitVec 32) {Q : _ → sProp 𝕄} :
    iprop(records G K ∗ (owesE c 0 ∗ waitB (F := F) c 13 ∗ doneB G c 13) ∗ slotPts c c (tail 7) G
        ∗ ((owesE c 0 ∗ (((c : Thread nD τ).loc cc0_scratch0) ↦{fullShare} G) ∗ bigSep Finset.univ fun j : Fin 14 => semVal (dCell c j) 0)
          -∗ Q ⟨k0_pay275 (half0 G) (half1 G), k0_pay278 (half0 G) (half1 G), k0_pay279 (half0 G) (half1 G), k0_pay282 (half0 G) (half1 G),
              k0_pay283 (half0 G) (half1 G), k0_pay286 (half0 G) (half1 G), k0_pay287 (half0 G) (half1 G), k0_pay288 (half0 G) (half1 G)⟩))
      ⊢ wp frame (wpE (defs₀ (F := F)) 𝒱₀ (c : Thread nD τ) none) Set.univ
          (k0_part24 xM (Memref.isWhole_whole _) oM (Memref.isWhole_whole _) scrM (Memref.isWhole_whole _) cc0_scratch1 cc0_scratch2 c v789 v793 v797 c4_i32_380) Q := by
  rw [k0_part24_eq_skeleton]; unfold k0_part24_skel
  simp only [semSignalWord, semWaitWord, Prog.lift, Prog.bind_op, Prog.bind_ret, Prog.pure_eq_ret, wp_deviceId]
  iintro ⟨#HR, ⟨HO, Hw, Hd⟩, Ht, Hk⟩
  iapply (step_wait G K c 13 13 14 rfl rfl recv_sem6) $$ [HO Hw Hd]
  · isplitr; · iexact HR
    isplitl [HO]; · iexact HO
    isplitl [Hw] <;> iassumption
  iintro ⟨HO, -, Hd⟩
  ihave Hj := (scr_joined G c) $$ [Ht Hd]
  · isplitl [Ht] <;> iassumption
  icases Hj with ⟨Hscr, Hz⟩
  iapply (wp_load 𝒱₀ (c : Thread nD τ) none Set.univ (m := scrM) (Finset.subset_univ _)) $$ Hscr; iintro Hscr
  iapply (wp_load 𝒱₀ (c : Thread nD τ) none Set.univ (m := scrM) (Finset.subset_univ _)) $$ Hscr; iintro Hscr
  ihave H := Hk $$ [HO Hscr Hz]
  · isplitl [HO]; · iexact HO
    isplitl [Hscr] <;> iassumption
  iapply (finish ?_) $$ H
  rfl

/-! ## The body -/

/-- What a device is dealt at launch: the barrier's tokens and the transfers', its positions, its credit. -/
def dealt (c : Dev nD) : sProp 𝕄 :=
  iprop((bigSep Finset.univ fun k : Fin 7 => dutyTok ER (barCell (peer k c)) 0 k) ∗ toksB (F := F) c
    ∗ atPos ER (barCell c) 0 ∅ 0 ∗ cred (tallyAt (barCell c) () 7) ∗ recvB (F := F) c)

/-- The launch's scratch, cut in slots: the peers' ready to be handed over, the device's own kept. -/
theorem signals_ready :
    iprop((bigSep Finset.univ fun k : Fin 7 => dutyTok ER (barCell (peer k c)) 0 k) ∗ ∃ f : Contents F, ((c : Thread nD τ).loc cc0_scratch0) ↦{fullShare} f)
      ⊢ iprop(sigB (F := F) c 0 ∗ ∃ f : Contents F, slotPts c c fullShare f) := by
  unfold sigB
  rw [show (from_ 0 : Finset (Fin 7)) = Finset.univ from from_zero]
  iintro ⟨Ht, %f, Hf⟩
  ihave Hf := (Entails.of_eq (scr_slots c f)) $$ Hf
  icases Hf with ⟨Ho, Hp⟩
  isplitl [Ht Hp]
  · iapply (show iprop((bigSep Finset.univ fun k : Fin 7 => (dutyTok ER (barCell (peer k c)) 0 k : sProp 𝕄)) ∗ bigSep Finset.univ fun k : Fin 7 => slotPts c (peer k c) fullShare f)
        ⊢ bigSep Finset.univ fun k : Fin 7 => sigOne (F := F) c k from by
      rw [← bigSep_sep']
      refine bigSep_mono fun k _ => ?_
      show iprop(dutyTok ER (barCell (peer k c)) 0 k ∗ slotPts c (peer k c) fullShare f) ⊢ iprop(dutyTok ER (barCell (peer k c)) 0 k ∗ ∃ f : Contents F, slotPts c (peer k c) fullShare f)
      iintro ⟨Ha, Hb⟩
      isplitl [Ha]; · iexact Ha
      iexists f; iexact Hb)
    isplitl [Ht] <;> iassumption
  iexists f; iexact Ho

/-- The output's staging buffer. -/
def oOwn (c : Dev nD) (v : FVec F S512x16 .f32) : sProp 𝕄 := ((c : Thread nD τ).loc cc0_stg1_0) ↦{fullShare} v

omit [FloatOps F] in
theorem write_out (f w : (cc0_stg1_0 : Ref sig .tc).ty.Contents (Elt F)) :
    ((oM : Memref sig .tc .vmem S512x16 .f32).access (Rect.unit (s := S512x16) ![0, 0] S512x16.size inb_S512x16_S512x16_0_0) : View sig .tc _ _ _).write (Elt F) f w Finset.univ = w :=
  Memref.write_access_unit_zero_univ (Elt F) cc0_stg1_0 (funext fun a => by fin_cases a <;> rfl) _ f w

/-- What holds after the body. -/
def ended (X : Dev nD → Block F) (c : Dev nD) : sProp 𝕄 :=
  iprop((((c : Thread nD τ).loc cc0_scratch0) ↦{fullShare} shared X) ∗ (bigSep Finset.univ fun j : Fin 14 => semVal (dCell c j) 0) ∗ semVal (barCell c) 0)

theorem part25 (X : Dev nD → Block F) {Q : _ → sProp 𝕄} :
    iprop(records (shared X) K ∗ levAts L lv ∗ dealt (F := F) c ∗ (∃ f : Contents F, ((c : Thread nD τ).loc cc0_scratch0) ↦{fullShare} f)
        ∗ owesE c (O₀ c) ∗ xOwn c (X c)
        ∗ ((ended X c ∗ owesE c 0 ∗ xOwn c (X c)) -∗ Q (⟨k0_pay292 (k0_pay275 (half0 (shared X)) (half1 (shared X))) (k0_pay278 (half0 (shared X)) (half1 (shared X))) (k0_pay279 (half0 (shared X)) (half1 (shared X))) (k0_pay282 (half0 (shared X)) (half1 (shared X))) (k0_pay283 (half0 (shared X)) (half1 (shared X))) (k0_pay286 (half0 (shared X)) (half1 (shared X))) (k0_pay287 (half0 (shared X)) (half1 (shared X))) (k0_pay288 (half0 (shared X)) (half1 (shared X))), k0_pay293 (k0_pay275 (half0 (shared X)) (half1 (shared X))) (k0_pay278 (half0 (shared X)) (half1 (shared X))) (k0_pay279 (half0 (shared X)) (half1 (shared X))) (k0_pay282 (half0 (shared X)) (half1 (shared X))) (k0_pay283 (half0 (shared X)) (half1 (shared X))) (k0_pay286 (half0 (shared X)) (half1 (shared X))) (k0_pay287 (half0 (shared X)) (half1 (shared X))) (k0_pay288 (half0 (shared X)) (half1 (shared X))), k0_pay296 (k0_pay275 (half0 (shared X)) (half1 (shared X))) (k0_pay278 (half0 (shared X)) (half1 (shared X))) (k0_pay279 (half0 (shared X)) (half1 (shared X))) (k0_pay282 (half0 (shared X)) (half1 (shared X))) (k0_pay283 (half0 (shared X)) (half1 (shared X))) (k0_pay286 (half0 (shared X)) (half1 (shared X))) (k0_pay287 (half0 (shared X)) (half1 (shared X))) (k0_pay288 (half0 (shared X)) (half1 (shared X))), k0_pay297 (k0_pay275 (half0 (shared X)) (half1 (shared X))) (k0_pay278 (half0 (shared X)) (half1 (shared X))) (k0_pay279 (half0 (shared X)) (half1 (shared X))) (k0_pay282 (half0 (shared X)) (half1 (shared X))) (k0_pay283 (half0 (shared X)) (half1 (shared X))) (k0_pay286 (half0 (shared X)) (half1 (shared X))) (k0_pay287 (half0 (shared X)) (half1 (shared X))) (k0_pay288 (half0 (shared X)) (half1 (shared X))), k0_pay300 (k0_pay275 (half0 (shared X)) (half1 (shared X))) (k0_pay278 (half0 (shared X)) (half1 (shared X))) (k0_pay279 (half0 (shared X)) (half1 (shared X))) (k0_pay282 (half0 (shared X)) (half1 (shared X))) (k0_pay283 (half0 (shared X)) (half1 (shared X))) (k0_pay286 (half0 (shared X)) (half1 (shared X))) (k0_pay287 (half0 (shared X)) (half1 (shared X))) (k0_pay288 (half0 (shared X)) (half1 (shared X))), k0_pay301 (k0_pay275 (half0 (shared X)) (half1 (shared X))) (k0_pay278 (half0 (shared X)) (half1 (shared X))) (k0_pay279 (half0 (shared X)) (half1 (shared X))) (k0_pay282 (half0 (shared X)) (half1 (shared X))) (k0_pay283 (half0 (shared X)) (half1 (shared X))) (k0_pay286 (half0 (shared X)) (half1 (shared X))) (k0_pay287 (half0 (shared X)) (half1 (shared X))) (k0_pay288 (half0 (shared X)) (half1 (shared X))), k0_pay304 (k0_pay275 (half0 (shared X)) (half1 (shared X))) (k0_pay278 (half0 (shared X)) (half1 (shared X))) (k0_pay279 (half0 (shared X)) (half1 (shared X))) (k0_pay282 (half0 (shared X)) (half1 (shared X))) (k0_pay283 (half0 (shared X)) (half1 (shared X))) (k0_pay286 (half0 (shared X)) (half1 (shared X))) (k0_pay287 (half0 (shared X)) (half1 (shared X))) (k0_pay288 (half0 (shared X)) (half1 (shared X))), k0_pay305 (k0_pay275 (half0 (shared X)) (half1 (shared X))) (k0_pay278 (half0 (shared X)) (half1 (shared X))) (k0_pay279 (half0 (shared X)) (half1 (shared X))) (k0_pay282 (half0 (shared X)) (half1 (shared X))) (k0_pay283 (half0 (shared X)) (half1 (shared X))) (k0_pay286 (half0 (shared X)) (half1 (shared X))) (k0_pay287 (half0 (shared X)) (half1 (shared X))) (k0_pay288 (half0 (shared X)) (half1 (shared X))), k0_pay308 (k0_pay275 (half0 (shared X)) (half1 (shared X))) (k0_pay278 (half0 (shared X)) (half1 (shared X))) (k0_pay279 (half0 (shared X)) (half1 (shared X))) (k0_pay282 (half0 (shared X)) (half1 (shared X))) (k0_pay283 (half0 (shared X)) (half1 (shared X))) (k0_pay286 (half0 (shared X)) (half1 (shared X))) (k0_pay287 (half0 (shared X)) (half1 (shared X))) (k0_pay288 (half0 (shared X)) (half1 (shared X))), k0_pay309 (k0_pay275 (half0 (shared X)) (half1 (shared X))) (k0_pay278 (half0 (shared X)) (half1 (shared X))) (k0_pay279 (half0 (shared X)) (half1 (shared X))) (k0_pay282 (half0 (shared X)) (half1 (shared X))) (k0_pay283 (half0 (shared X)) (half1 (shared X))) (k0_pay286 (half0 (shared X)) (half1 (shared X))) (k0_pay287 (half0 (shared X)) (half1 (shared X))) (k0_pay288 (half0 (shared X)) (half1 (shared X))), k0_pay312 (k0_pay275 (half0 (shared X)) (half1 (shared X))) (k0_pay278 (half0 (shared X)) (half1 (shared X))) (k0_pay279 (half0 (shared X)) (half1 (shared X))) (k0_pay282 (half0 (shared X)) (half1 (shared X))) (k0_pay283 (half0 (shared X)) (half1 (shared X))) (k0_pay286 (half0 (shared X)) (half1 (shared X))) (k0_pay287 (half0 (shared X)) (half1 (shared X))) (k0_pay288 (half0 (shared X)) (half1 (shared X))), k0_pay313 (k0_pay275 (half0 (shared X)) (half1 (shared X))) (k0_pay278 (half0 (shared X)) (half1 (shared X))) (k0_pay279 (half0 (shared X)) (half1 (shared X))) (k0_pay282 (half0 (shared X)) (half1 (shared X))) (k0_pay283 (half0 (shared X)) (half1 (shared X))) (k0_pay286 (half0 (shared X)) (half1 (shared X))) (k0_pay287 (half0 (shared X)) (half1 (shared X))) (k0_pay288 (half0 (shared X)) (half1 (shared X))), k0_pay316 (k0_pay275 (half0 (shared X)) (half1 (shared X))) (k0_pay278 (half0 (shared X)) (half1 (shared X))) (k0_pay279 (half0 (shared X)) (half1 (shared X))) (k0_pay282 (half0 (shared X)) (half1 (shared X))) (k0_pay283 (half0 (shared X)) (half1 (shared X))) (k0_pay286 (half0 (shared X)) (half1 (shared X))) (k0_pay287 (half0 (shared X)) (half1 (shared X))) (k0_pay288 (half0 (shared X)) (half1 (shared X))), k0_pay317 (k0_pay275 (half0 (shared X)) (half1 (shared X))) (k0_pay278 (half0 (shared X)) (half1 (shared X))) (k0_pay279 (half0 (shared X)) (half1 (shared X))) (k0_pay282 (half0 (shared X)) (half1 (shared X))) (k0_pay283 (half0 (shared X)) (half1 (shared X))) (k0_pay286 (half0 (shared X)) (half1 (shared X))) (k0_pay287 (half0 (shared X)) (half1 (shared X))) (k0_pay288 (half0 (shared X)) (half1 (shared X))), k0_pay320 (k0_pay275 (half0 (shared X)) (half1 (shared X))) (k0_pay278 (half0 (shared X)) (half1 (shared X))) (k0_pay279 (half0 (shared X)) (half1 (shared X))) (k0_pay282 (half0 (shared X)) (half1 (shared X))) (k0_pay283 (half0 (shared X)) (half1 (shared X))) (k0_pay286 (half0 (shared X)) (half1 (shared X))) (k0_pay287 (half0 (shared X)) (half1 (shared X))) (k0_pay288 (half0 (shared X)) (half1 (shared X))), k0_pay321 (k0_pay275 (half0 (shared X)) (half1 (shared X))) (k0_pay278 (half0 (shared X)) (half1 (shared X))) (k0_pay279 (half0 (shared X)) (half1 (shared X))) (k0_pay282 (half0 (shared X)) (half1 (shared X))) (k0_pay283 (half0 (shared X)) (half1 (shared X))) (k0_pay286 (half0 (shared X)) (half1 (shared X))) (k0_pay287 (half0 (shared X)) (half1 (shared X))) (k0_pay288 (half0 (shared X)) (half1 (shared X)))⟩)))
      ⊢ wp frame (wpE (defs₀ (F := F)) 𝒱₀ (c : Thread nD τ) none) Set.univ
          (k0_part25 xM (Memref.isWhole_whole _) oM (Memref.isWhole_whole _) scrM (Memref.isWhole_whole _) cc0_scratch1 cc0_scratch2) Q := by
  rw [k0_part25_eq_skeleton]; unfold k0_part25_skel dealt O₀
  iintro ⟨#HR, #Hlev, ⟨HtB, Ht, HatB, HcB, Hr⟩, Hscr, HO, Hx, Hk⟩
  ihave H := (signals_ready (F := F) c) $$ [HtB Hscr]
  · isplitl [HtB] <;> iassumption
  icases H with ⟨Hs, Hscr⟩
  rw [wp_bind]
  iapply (part1 (shared X) K c)
  isplitr; · iexact HR
  isplitl [HO Hs]
  · isplitl [HO]; · iexact HO
    iexact Hs
  iintro %v2 %v5 %w1 %w2 %w3 ⟨HO, Hs⟩
  dsimp only
  rw [wp_bind]
  iapply (part2 (shared X) K c _ _ _ _ _ _)
  isplitr; · iexact HR
  isplitl [HO Hs]
  · isplitl [HO]; · iexact HO
    iexact Hs
  iintro %r ⟨HO, Hs⟩
  obtain ⟨a20, a21⟩ := r
  dsimp only
  rw [wp_bind]
  iapply (part3 (shared X) K c _ _ _ _ _)
  isplitr; · iexact HR
  isplitl [HO Hs]
  · isplitl [HO]; · iexact HO
    iexact Hs
  iintro %r ⟨HO, Hs⟩
  obtain ⟨a30, a31⟩ := r
  dsimp only
  rw [wp_bind]
  iapply (part4 (shared X) K c _ _ _ _ _)
  isplitr; · iexact HR
  isplitl [HO Hs]
  · isplitl [HO]; · iexact HO
    iexact Hs
  iintro %r ⟨HO, Hs⟩
  obtain ⟨a40, a41, a42, a43⟩ := r
  dsimp only
  rw [wp_bind]
  iapply (part5 (shared X) K (X c) c _ _ _ _ _ _)
  isplitr; · iexact HR
  isplitl [HO Hs Hx]
  · isplitl [HO]; · iexact HO
    isplitl [Hs]; · iexact Hs
    iexact Hx
  iintro %v137 %v138 ⟨HO, -, Hx⟩
  dsimp only
  rw [wp_bind]
  iapply (part6 (X c) c _)
  isplitl [Hx]; · iexact Hx
  iintro Hx
  dsimp only
  rw [wp_bind]
  iapply (part7 (X c) c _)
  isplitl [Hx]; · iexact Hx
  iintro Hx
  dsimp only
  rw [wp_bind]
  iapply (part8 (X c) c _)
  isplitl [Hx]; · iexact Hx
  iintro Hx
  dsimp only
  rw [wp_bind]
  iapply (part9 (X c) c _)
  isplitl [Hx]; · iexact Hx
  iintro Hx
  dsimp only
  rw [wp_bind]
  iapply (part10 (X c) c _)
  isplitl [Hx]; · iexact Hx
  iintro Hx
  dsimp only
  rw [wp_bind]
  iapply (part11 (X c) c _)
  isplitl [Hx]; · iexact Hx
  iintro Hx
  dsimp only
  rw [wp_bind]
  iapply (part12 (X c) c _)
  isplitl [Hx]; · iexact Hx
  iintro Hx
  dsimp only
  rw [wp_bind]
  iapply (part13 (X c) c )
  isplitl [Hx]; · iexact Hx
  iintro Hx
  dsimp only
  rw [wp_bind]
  iapply (part14 K c X _ _ _)
  isplitr; · iexact HR
  isplitr; · iexact Hlev
  isplitl [HO]; · iexact HO
  isplitl [Hscr]; · iexact Hscr
  isplitl [HcB]; · iexact HcB
  isplitl [HatB]; · iexact HatB
  isplitl [Ht]; · iexact Ht
  iintro %r ⟨HzB, HO, Hs, Ho, Hc⟩
  obtain ⟨a140, a141, a142⟩ := r
  dsimp only
  rw [wp_bind]
  iapply (part15 (shared X) K c _ _ _ _ _ _)
  isplitr; · iexact HR
  isplitl [HO Hs Ho Hc]
  · isplitl [HO]; · iexact HO
    isplitl [Hs]; · iexact Hs
    isplitl [Ho]; · iexact Ho
    iexact Hc
  iintro %r ⟨HO, Hs, Ho, Hc⟩
  obtain ⟨a150, a151, a152⟩ := r
  dsimp only
  rw [wp_bind]
  iapply (part16 (shared X) K c _ _ _)
  isplitr; · iexact HR
  isplitl [HO Hs Ho Hc]
  · isplitl [HO]; · iexact HO
    isplitl [Hs]; · iexact Hs
    isplitl [Ho]; · iexact Ho
    iexact Hc
  iintro %r ⟨HO, Hs, Ho, Hc⟩
  obtain ⟨a160, a161, a162, a163, a164⟩ := r
  dsimp only
  rw [wp_bind]
  iapply (part17 (shared X) K c _ _ _ _ _)
  isplitr; · iexact HR
  isplitl [HO Hs Ho Hc]
  · isplitl [HO]; · iexact HO
    isplitl [Hs]; · iexact Hs
    isplitl [Ho]; · iexact Ho
    iexact Hc
  iintro %r ⟨HO, Hs, Ho, Hc⟩
  obtain ⟨a170, a171, a172, a173, a174, a175, a176⟩ := r
  dsimp only
  rw [wp_bind]
  iapply (part18 (shared X) K c _ _ _ _ _ _ _)
  isplitr; · iexact HR
  isplitl [HO Hs Ho Hc]
  · isplitl [HO]; · iexact HO
    isplitl [Hs]; · iexact Hs
    isplitl [Ho]; · iexact Ho
    iexact Hc
  iintro %r ⟨HO, Hs, Ho, Hc⟩
  obtain ⟨a180, a181, a182, a183, a184, a185⟩ := r
  dsimp only
  rw [wp_bind]
  iapply (part19 (shared X) K c _ _ _ _ _ _)
  isplitr; · iexact HR
  isplitl [HO Hs Ho Hc]
  · isplitl [HO]; · iexact HO
    isplitl [Hs]; · iexact Hs
    isplitl [Ho]; · iexact Ho
    iexact Hc
  iintro %r ⟨HO, Hs, Ho, Hc⟩
  obtain ⟨a190, a191, a192⟩ := r
  dsimp only
  rw [wp_bind]
  iapply (part20 (shared X) K c _ _ _ _ _)
  isplitr; · iexact HR
  isplitl [HO Hs Ho Hc]
  · isplitl [HO]; · iexact HO
    isplitl [Hs]; · iexact Hs
    isplitl [Ho]; · iexact Ho
    iexact Hc
  isplitl [Hr]; · iexact Hr
  iintro %r ⟨Ho, HO, Hw, Hd⟩
  obtain ⟨a200, a201⟩ := r
  dsimp only
  rw [wp_bind]
  iapply (part21 (shared X) K c _ _ _ _ _ _)
  isplitr; · iexact HR
  isplitl [HO Hw Hd]
  · isplitl [HO]; · iexact HO
    isplitl [Hw]; · iexact Hw
    iexact Hd
  iintro %r ⟨HO, Hw, Hd⟩
  rw [wp_bind]
  iapply (part22 (shared X) K c _ _ _ _ _ _)
  isplitr; · iexact HR
  isplitl [HO Hw Hd]
  · isplitl [HO]; · iexact HO
    isplitl [Hw]; · iexact Hw
    iexact Hd
  iintro %r ⟨HO, Hw, Hd⟩
  rw [wp_bind]
  iapply (part23 (shared X) K c _ _ _)
  isplitr; · iexact HR
  isplitl [HO Hw Hd]
  · isplitl [HO]; · iexact HO
    isplitl [Hw]; · iexact Hw
    iexact Hd
  iintro %r ⟨HO, Hw, Hd⟩
  rw [wp_bind]
  iapply (part24 (shared X) K c _ _ _ _)
  isplitr; · iexact HR
  isplitl [HO Hw Hd]
  · isplitl [HO]; · iexact HO
    isplitl [Hw]; · iexact Hw
    iexact Hd
  isplitl [Ho]; · iexact Ho
  iintro ⟨HO, Hscr, Hz⟩
  dsimp only
  ihave H := Hk $$ [HO Hx Hscr Hz HzB]
  · unfold ended
    isplitl [Hscr Hz HzB]
    · isplitl [Hscr]; · iexact Hscr
      isplitl [Hz] <;> iassumption
    isplitl [HO] <;> iassumption
  iapply (finish ?_) $$ H
  rfl

/-- The body, from what a device is dealt to its result. -/
theorem sound_body (X : Dev nD → Block F) (Q : PUnit → sProp 𝕄) :
    iprop(records (shared X) K ∗ levAts L lv ∗ dealt (F := F) c ∗ (∃ f : Contents F, ((c : Thread nD τ).loc cc0_scratch0) ↦{fullShare} f)
        ∗ owesE c (O₀ c) ∗ xOwn c (X c) ∗ (∃ f, oOwn c f)
        ∗ ((ended X c ∗ owesE c 0 ∗ xOwn c (X c) ∗ oOwn c (outVal X)) -∗ Q ⟨⟩))
      ⊢ wp frame (wpE (defs₀ (F := F)) 𝒱₀ (c : Thread nD τ) none) Set.univ
          (cc0_body xM (Memref.isWhole_whole _) oM (Memref.isWhole_whole _) scrM (Memref.isWhole_whole _) cc0_scratch1 cc0_scratch2) Q := by
  rw [cc0_body_eq_skeleton]; unfold cc0_body_skel
  iintro ⟨#HR, #Hlev, Hd, Hscr, HO, Hx, ⟨%f, Hout⟩, Hk⟩
  rw [wp_bind]
  iapply (part25 K c X)
  isplitr; · iexact HR
  isplitr; · iexact Hlev
  isplitl [Hd]; · iexact Hd
  isplitl [Hscr]; · iexact Hscr
  isplitl [HO]; · iexact HO
  isplitl [Hx]; · iexact Hx
  iintro ⟨He, HO, Hx⟩
  simp only [Prog.lift, Prog.bind_op, Prog.bind_ret, Prog.pure_eq_ret]
  unfold oOwn
  iapply (wp_load 𝒱₀ (c : Thread nD τ) none Set.univ (m := oM) (Finset.subset_univ _)) $$ Hout; iintro Hout
  iapply (wp_store 𝒱₀ (c : Thread nD τ) none Set.univ (m := oM)
    (r := Rect.unit (s := S512x16) ![0, 0] S512x16.size inb_S512x16_S512x16_0_0) (Mk := Finset.univ) (Finset.subset_univ _)) $$ Hout; iintro Hout
  rw [write_out, wp_ret]; imodintro
  iapply Hk
  isplitl [He]; · iexact He
  isplitl [HO]; · iexact HO
  isplitl [Hx]; · iexact Hx
  iexact Hout

end Cert.Exchange

end
-- ==== Proof.Run.lean ====
/-
# The run

The exchange launched on the eight devices: the ghost state dealt, the credit counted, the body's obligation, and what
holds of every final memory.
-/
module

public import proofs.«01_k».proof.Proof.Body
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat BodyObligation)

variable (m : (ℓ : Loc nD τ sig) → Buf (Elt F) ℓ) (ρ : Dev nD → PrngReg)

/-- The memory at launch: any contents, every counter zero. -/
def s₀ : MemSt nD τ sig (Elt F) := ⟨m, fun _ => 0, ρ⟩

/-- Device `c`'s block of the input, staged. -/
def blockOf (c : Dev nD) : Block F := (win0_0.blk (0 : Fin 1)).view.read (Elt F) ((s₀ m ρ).mem ((c : Thread nD τ).loc main_arg0))

/-! ## The pipeline's data -/

/-- The duties a device pays and the positions it holds. -/
def linear (c : Dev nD) : sProp 𝕄 :=
  iprop((bigSep Finset.univ fun k : Fin 7 => dutyTok ER (barCell (peer k c)) 0 k) ∗ toksB (F := F) c
    ∗ atPos ER (barCell c) 0 ∅ 0 ∗ bigSep Finset.univ fun j : Fin 14 => atPos ER (dCell c j) 0 ∅ 0)
def ghost (c : Dev nD) : sProp 𝕄 := iprop(∃ K, records (shared (blockOf m ρ)) K ∗ linear c)
def start (c : Dev nD) : sProp 𝕄 :=
  iprop(ghost m ρ c ∗ cred (tallyAt (barCell c) () 7) ∗ (bigSep Finset.univ fun k : Fin 7 => cred (tallyAt (dCell c (jR k)) () N)) ∗ levAts L lv)
def Φ₀ (c : Dev nD) : sProp 𝕄 := iprop(start m ρ c ∗ ∃ f : Contents F, ((c : Thread nD τ).loc cc0_scratch0) ↦{fullShare} f)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => blockOf m ρ c
    | ⟨1, _⟩ => outVal (blockOf m ρ)
  Φ t := match t with
    | ⟨0, _⟩ => Φ₀ m ρ c
    | ⟨_ + 1, _⟩ => ended (blockOf m ρ) c
  q _ := fullShare
  owed t := match t with
    | ⟨0, _⟩ => O₀ c
    | ⟨_ + 1, _⟩ => 0

def t₀ : Fin cfg0.N := t0_0
theorem fin_N (t : Fin cfg0.N) : t = t₀ := fin_N0 t

theorem fetch_0 (t : Fin cfg0.N) : (cfg0.win (0 : Fin 2)).fetch t = true := by rw [fin_N t]; rfl

omit [FloatOps F] in
theorem owns_buffer (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
def bodyPre (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))
def bodyPost (c : Dev nD) : sProp 𝕄 :=
  iprop(ended (blockOf m ρ) c ∗ (dats m ρ 0 c).owesAt () t₀.succ ∗ stg c cc0_stg0_0 (blockOf m ρ c) ∗ stg c cc0_stg1_0 (outVal (blockOf m ρ)))

set_option maxRecDepth 4000 in
theorem body_obligation (c : Dev nD) : BodyObligation (dats (F := F) m ρ 0 c) (defs₀ (F := F)) 𝒱₀ () Set.univ := fun t => by
  rw [fin_N t]
  rw [bigSep_W0, bigSep_W0]
  simp only [owns_buffer]
  show bodyPre m ρ c ⊢ wp frame (wpE (defs₀ (F := F)) 𝒱₀ (c : Thread nD τ) none) Set.univ
    (cc0_body xM (Memref.isWhole_whole _) oM (Memref.isWhole_whole _) scrM (Memref.isWhole_whole _) cc0_scratch1 cc0_scratch2) (fun _ => bodyPost m ρ c)
  unfold bodyPre Φ₀ start ghost linear
  iintro ⟨⟨⟨⟨%K, #HR, HtB, Ht, HatB, Hat⟩, HcB, HcR, #Hlev⟩, Hscr⟩, Ho, ⟨%d0, %g0, %hg0, Hx⟩, ⟨%d1, %g1, %hg1, Hout⟩⟩
  have hx : g0 = blockOf m ρ c := by rw [hg0]; unfold Dat.before; rw [if_pos (fetch_0 t₀)]; rfl
  subst hx
  unfold Dat.owesAt Pipeline.owesWithin
  icases Ho with ⟨%W, -, HO⟩
  iapply (sound_body K c (blockOf m ρ) fun _ => bodyPost m ρ c)
  isplitr; · iexact HR
  isplitr; · iexact Hlev
  isplitl [HtB Ht HatB Hat HcB HcR]
  · unfold dealt recvB
    isplitl [HtB]; · iexact HtB
    isplitl [Ht]; · iexact Ht
    isplitl [HatB]; · iexact HatB
    isplitl [HcB]; · iexact HcB
    isplitl [Hat] <;> iassumption
  isplitl [Hscr]; · iexact Hscr
  isplitl [HO]
  · unfold owesE; iexists W; iexact HO
  isplitl [Hx]
  · unfold xOwn; iexact Hx
  isplitl [Hout]
  · iexists g1; unfold oOwn; iexact Hout
  unfold owesE xOwn oOwn bodyPost Dat.owesAt Pipeline.owesWithin
  iintro ⟨He, ⟨%W', HO⟩, Hx, Hout⟩
  rw [show (dats m ρ 0 c).owed t₀.succ = 0 from rfl]
  isplitl [He]; · iexact He
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

/-! ## The ghost state -/

/-- A device's transfer semaphores, as the launch lists them. -/
abbrev osem : Fin 14 → SemLoc sig := fun j => .dma (dS j)

theorem ownSemFacts : Pipeline.OwnSemFacts cfg0.spec osem := by decide

theorem share_eq (c : Dev nD) (w : Fin cfg0.W) : (dats m ρ 0 c).share w = fullShare := by unfold Dat.share; split <;> rfl

theorem csem_inj {a b : Option (Fin 14)} (h : csem a = csem b) : a = b := by
  rcases a with _ | a <;> rcases b with _ | b
  · rfl
  · cases h
  · cases h
  · have := congrArg jOf (SemLoc.dma.inj h); rw [jOf_dS, jOf_dS] at this; exact this

theorem kcell_injective : Function.Injective (kcell : Dev nD × Option (Fin 14) → GSem nD τ sig) := by
  rintro ⟨c, k⟩ ⟨c', k'⟩ h
  have h1 : c = c' := by have := congrArg (fun g : GSem nD τ sig => g.1.1) h; exact this
  subst h1
  exact congrArg (Prod.mk c) (csem_inj (congrArg Prod.snd h))
def exCells : Finset (GSem nD τ sig) := Finset.univ.map ⟨kcell, kcell_injective⟩

/-- A device's own duties: seven of its barrier, one of each transfer semaphore. -/
abbrev tokOf (cj : Dev nD × (Fin 7 ⊕ Fin 14)) : GSem nD τ sig × ℕ × Fin 7 := match cj.2 with
  | .inl k => (barCell cj.1, 0, k)
  | .inr j => (dCell cj.1 j, 0, 0)
theorem tokOf_injective : Function.Injective (tokOf : Dev nD × (Fin 7 ⊕ Fin 14) → GSem nD τ sig × ℕ × Fin 7) := by
  rintro ⟨c, j⟩ ⟨c', j'⟩ h
  have h1 : c = c' := by
    have := congrArg (fun x : GSem nD τ sig × ℕ × Fin 7 => x.1.1.1) h
    rcases j with j | j <;> rcases j' with j' | j' <;> exact this
  subst h1
  rcases j with j | j <;> rcases j' with j' | j'
  · have : j = j' := congrArg (fun x : GSem nD τ sig × ℕ × Fin 7 => x.2.2) h
    rw [this]
  · have : (SemLoc.reg barS : SemLoc sig) = .dma (dS j') := congrArg (fun x : GSem nD τ sig × ℕ × Fin 7 => x.1.2) h
    cases this
  · have : (SemLoc.dma (dS j) : SemLoc sig) = .reg barS := congrArg (fun x : GSem nD τ sig × ℕ × Fin 7 => x.1.2) h
    cases this
  · have : csem (some j) = csem (some j') := congrArg (fun x : GSem nD τ sig × ℕ × Fin 7 => x.1.2) h
    rw [Option.some.inj (csem_inj this)]
def exToks : Finset (GSem nD τ sig × ℕ × Fin 7) := Finset.univ.map ⟨tokOf, tokOf_injective⟩

def u₀ : UU :=
  (initOf (Pipeline.cells cfgs cellOf_inj) (Pipeline.launchToks cfgs cellOf_inj), initOf exCells exToks)

/-- The tokens of a device's own duties. -/
def toks (c : Dev nD) : sProp 𝕄 :=
  iprop((bigSep Finset.univ fun k : Fin 7 => dutyTok ER (barCell c) 0 k) ∗ bigSep Finset.univ fun j : Fin 14 => dutyTok ER (dCell c j) 0 0)

variable (G : Contents F)

/-- What a device is dealt of the launch element. -/
def deal (c : Dev nD) : sProp 𝕄 :=
  iprop((bigSep Finset.univ fun k : Option (Fin 14) => roundState ER (sched G) (kcell (c, k)) 0)
    ∗ (bigSep Finset.univ fun k : Option (Fin 14) => iprop(atPos ER (kcell (c, k)) 0 ∅ 0 ∗ reached ER (kcell (c, k)) 0)) ∗ toks c)

theorem fund : BI.own (ER (initOf exCells exToks)) ⊢ (|==> bigSep Finset.univ (deal G) : sProp 𝕄) := by
  have hX (Φ : GSem nD τ sig → sProp 𝕄) : bigSep exCells Φ = bigSep Finset.univ fun c : Dev nD => bigSep Finset.univ fun k : Option (Fin 14) => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => by unfold toks; rw [bigSep_univ_sum]; rfl
  iintro HX
  imod (Rounds.fund ER (sched G) exCells exToks) $$ HX with ⟨Hst, Hr, Hat, Htok⟩
  imodintro
  ihave Hst' := (Entails.of_eq (hX fun g => roundState ER (sched G) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold deal; simp only [bigSep_sep']
  isplitl [Hst']; · iexact Hst'
  isplitl [Hat' Hr']
  · isplitl [Hat'] <;> iassumption
  iexact Htok'

omit [FloatOps F] in
/-- Over all of a device's cells: its barrier's and its transfers'. -/
theorem bigSep_cells (Φ : Option (Fin 14) → sProp 𝕄) : bigSep Finset.univ Φ = iprop(Φ none ∗ bigSep Finset.univ fun j => Φ (some j)) := by
  rw [show (Finset.univ : Finset (Option (Fin 14))) = insert none (Finset.univ.map ⟨some, Option.some_injective _⟩) by decide,
    bigSep_insert (by decide), bigSep_map]; rfl

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Option (Fin 14) => semVal (kcell (c, k)) 0 : sProp 𝕄) := by
  rw [unscopedSems0_eq, bigSep_cells]
  unfold Pipeline.ownSems0
  iintro ⟨H, HB⟩
  isplitl [HB]; · iexact HB
  iexact H

theorem core_alloc (c : Dev nD) :
    iprop(Pipeline.ownSems0 (Ix := Unit) (Name := ℕ) (U := UU) (Lvl := ℕ) (Val := Elt F) (τ := τ) osem c ∗ unscopedSems0 c ∗ deal G c)
      ⊢ |={Set.univ}=> iprop((bigSep Finset.univ fun k => iprop(∃ κ : ℕ, cellInv ER (sched G) κ (kcell (c, k))))
          ∗ (bigSep Finset.univ fun k => iprop(atPos ER (kcell (c, k)) 0 ∅ 0 ∗ reached ER (kcell (c, k)) 0)) ∗ toks c) := by
  unfold deal
  iintro ⟨Hos, Hus, Hst, Hat, Htok⟩
  ihave Hv := (sems0_eq (F := F) c) $$ [Hos Hus]
  · isplitl [Hos] <;> iassumption
  imod (show iprop((bigSep Finset.univ fun k : Option (Fin 14) => semVal (kcell (c, k)) 0) ∗ bigSep Finset.univ fun k : Option (Fin 14) => roundState ER (sched G) (kcell (c, k)) 0)
      ⊢ (|={Set.univ}=> bigSep Finset.univ fun k => iprop(∃ κ : ℕ, cellInv ER (sched G) κ (kcell (c, k))) : sProp 𝕄) from by
        rw [← bigSep_sep']
        exact (bigSep_mono fun k _ => (Rounds.body_intro ER (sched G) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- Dealt from each device to each of its peers, by the peer's number. -/
theorem deal_peers (Φ : Dev nD → Fin 7 → sProp 𝕄) :
    (bigSep Finset.univ fun c : Dev nD => bigSep Finset.univ fun k : Fin 7 => Φ c k)
      = bigSep Finset.univ fun c : Dev nD => bigSep Finset.univ fun k : Fin 7 => Φ (peer k c) k := by
  rw [bigSep_univ_comm, bigSep_univ_comm (fun c k => Φ (peer k c) k)]
  exact bigSep_congr fun k _ => bigSep_univ_equiv (peerEquiv k) fun c => Φ c k

theorem toks_around : (bigSep Finset.univ fun c : Dev nD => (toks c : sProp 𝕄))
    ⊢ bigSep Finset.univ fun c : Dev nD => iprop((bigSep Finset.univ fun k : Fin 7 => dutyTok ER (barCell (peer k c)) 0 k) ∗ toksB (F := F) c) := by
  unfold toks toksB
  simp only [all14 (fun j => dutyTok ER (dCell _ j) 0 0), bigSep_sep']
  rw [deal_peers (fun c k => (dutyTok ER (barCell c) 0 k : sProp 𝕄)), deal_peers (fun c k => (dutyTok ER (dCell c (jR k)) 0 0 : sProp 𝕄))]

theorem regroup :
    (bigSep Finset.univ fun c : Dev nD => iprop((bigSep Finset.univ fun k => iprop(∃ κ : ℕ, cellInv ER (sched G) κ (kcell (c, k))))
          ∗ (bigSep Finset.univ fun k => iprop(atPos ER (kcell (c, k)) 0 ∅ 0 ∗ reached ER (kcell (c, k)) 0)) ∗ toks c) : sProp 𝕄)
      ⊢ bigSep Finset.univ fun c => iprop(∃ K, records G K ∗ linear c) := by
  rw [bigSep_sep', bigSep_sep', ← bigSep_univ_prod (fun ck : Dev nD × Option (Fin 14) => iprop(∃ κ : ℕ, cellInv ER (sched G) κ (kcell ck))),
    bigSep_congr (s := Finset.univ) (fun (c : Dev nD) _ => bigSep_sep' Finset.univ (fun k : Option (Fin 14) => (atPos ER (kcell (c, k)) 0 ∅ 0 : sProp 𝕄)) (fun k => reached ER (kcell (c, k)) 0)),
    bigSep_sep', ← bigSep_univ_prod (fun ck : Dev nD × Option (Fin 14) => (reached ER (kcell ck) 0 : sProp 𝕄))]
  iintro ⟨HI, ⟨Hat, #HR⟩, Htok⟩
  ihave HK := (BI.bigSep_exists_pi Finset.univ (fun (ck : Dev nD × Option (Fin 14)) (κ : ℕ) => (cellInv ER (sched G) κ (kcell ck) : sProp 𝕄))) $$ HI
  icases HK with ⟨%K, #HI⟩
  ihave Htk := (toks_around (F := F)) $$ Htok
  iapply (show iprop(records G K ∗ bigSep Finset.univ fun c => linear c) ⊢ bigSep Finset.univ fun c => iprop(∃ K, records G K ∗ linear c) from
    (sep_mono_left (BI.bigSep_of_persistent Finset.univ (records G K))).trans (by
      rw [← bigSep_sep']
      refine bigSep_mono fun c _ => ?_
      show iprop(records G K ∗ linear c) ⊢ iprop(∃ K, records G K ∗ linear c)
      iintro H; iexists K; iexact H))
  isplitr
  · unfold records; isplitl; · iexact HI
    iexact HR
  · iapply (show iprop((bigSep Finset.univ fun c : Dev nD => bigSep Finset.univ fun k : Option (Fin 14) => (atPos ER (kcell (c, k)) 0 ∅ 0 : sProp 𝕄))
          ∗ bigSep Finset.univ fun c : Dev nD => iprop((bigSep Finset.univ fun k : Fin 7 => dutyTok ER (barCell (peer k c)) 0 k) ∗ toksB (F := F) c))
        ⊢ bigSep Finset.univ fun c => linear (F := F) c from by
      rw [← bigSep_sep']
      refine bigSep_mono fun c _ => ?_
      rw [bigSep_cells]
      show iprop((atPos ER (barCell c) 0 ∅ 0 ∗ bigSep Finset.univ fun j : Fin 14 => atPos ER (dCell c j) 0 ∅ 0)
        ∗ (bigSep Finset.univ fun k : Fin 7 => dutyTok ER (barCell (peer k c)) 0 k) ∗ toksB (F := F) c) ⊢ linear c
      unfold linear
      iintro ⟨⟨Ha, Hb⟩, Hc, Hd⟩
      isplitl [Hc]; · iexact Hc
      isplitl [Hd]; · iexact Hd
      isplitl [Ha] <;> iassumption)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ deal (shared (blockOf m ρ)) c) : sProp 𝕄)
    ⊢ |={Set.univ}=> bigSep Finset.univ (ghost m ρ) :=
  ((bigSep_mono fun c _ => core_alloc (shared (blockOf m ρ)) c).trans (bigSep_fupd _ _)).trans (BI.fupd_mono (regroup (shared (blockOf m ρ))))

/-! ## The launch credit -/

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem recv_eq_iff {a b : Dev nD} {k k' : Fin 7} : Iff (dCell a (jR k) = dCell b (jR k')) (a = b ∧ k = k') :=
  ⟨fun h => ⟨Fin.ext (congrArg (fun g : GSem nD τ sig => g.1.1.val) h), jR_inj (Option.some.inj (csem_inj (a := some (jR k)) (b := some (jR k')) (congrArg Prod.snd h)))⟩,
    fun ⟨h, h'⟩ => by rw [h, h']⟩

omit [FloatOps F] in
theorem tally_sum (cell : Fin 7 → GSem nD τ sig) (n : ℕ) (g : GSem nD τ sig) :
    (∑ k ∈ (from_ 0 : Finset (Fin 7)), tallyAt (cell k) () n : CellTallies nD τ sig Unit) g () = ∑ k : Fin 7, if g = cell k then n else 0 := by
  rw [from_zero, Finset.sum_apply, Finsupp.finset_sum_apply]
  refine Finset.sum_congr rfl fun k _ => ?_
  rw [tallyAt_apply]
  by_cases h : g = cell k
  · rw [if_pos h, if_pos ⟨h, rfl⟩]
  · rw [if_neg h, if_neg fun h' => h h'.1]

omit [FloatOps F] in
theorem owed_bar (d c : Dev nD) : O₀ d (barCell c) () = ∑ k : Fin 7, if c = peer k d then 1 else 0 := by
  unfold O₀ OB OR
  rw [Pi.add_apply, Finsupp.add_apply, tally_sum, tally_sum, Finset.sum_eq_zero (f := fun k => if barCell c = dCell (peer k d) (jR k) then N else 0)
    (fun k _ => if_neg fun h => by have h' : (SemLoc.reg barS : SemLoc sig) = .dma (dS (jR k)) := congrArg Prod.snd h; cases h'), Nat.add_zero]
  exact Finset.sum_congr rfl fun k _ => by simp only [bar_eq_iff]

omit [FloatOps F] in
theorem owed_recv (d c : Dev nD) (k : Fin 7) : O₀ d (dCell c (jR k)) () = if d = peer k c then N else 0 := by
  unfold O₀ OB OR
  rw [Pi.add_apply, Finsupp.add_apply, tally_sum, tally_sum, Finset.sum_eq_zero (f := fun k' => if dCell c (jR k) = barCell (peer k' d) then 1 else 0)
    (fun k' _ => if_neg fun h => by have h' : (SemLoc.dma (dS (jR k)) : SemLoc sig) = .reg barS := congrArg Prod.snd h; cases h'), Nat.zero_add]
  simp only [recv_eq_iff]
  rw [Finset.sum_eq_single k (fun k' _ hk => if_neg fun h => hk h.2.symm) (fun h => absurd (Finset.mem_univ k) h)]
  by_cases h : d = peer k c
  · subst h; rw [if_pos rfl, if_pos ⟨(peer_peer k c).symm, rfl⟩]
  · rw [if_neg h, if_neg fun h' => h (by rw [h'.1, peer_peer])]

omit [FloatOps F] in
theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c]
  have h : ∀ c : Fin 8, (∑ d : Fin 8, ∑ k : Fin 7, if c = peer k d then 1 else 0) = 7 := by decide +kernel
  exact h c

omit [FloatOps F] in
theorem launch_recv (c : Dev nD) (k : Fin 7) :
    tallyOn (dCell c (jR k)) (launchCredit (Pipeline.owing O₀) 0 (dCell c (jR k))) = (tallyAt (dCell c (jR k)) () N : CellTallies nD τ sig Unit) := by
  unfold tallyAt; refine congrArg _ (Finsupp.ext fun u => ?_); cases u
  rw [Pipeline.launchCredit_owing, Finsupp.single_eq_same, Finset.sum_congr rfl fun d _ => owed_recv d c k, Finset.sum_ite_eq' Finset.univ (peer k c) fun _ => N,
    if_pos (Finset.mem_univ _)]

omit [FloatOps F] in
theorem creds (c : Dev nD) :
    (Pipeline.launchCred O₀ c : sProp 𝕄) ⊢ iprop(cred (tallyAt (barCell c) () 7) ∗ bigSep Finset.univ fun k : Fin 7 => cred (tallyAt (dCell c (jR k)) () N)) := by
  unfold Pipeline.launchCred
  rw [bigSep_univ_at _ (SemLoc.reg barS), launch_bar]
  refine sep_mono_right ?_
  have hinj : Function.Injective fun k : Fin 7 => (SemLoc.dma (dS (jR k)) : SemLoc sig) := fun k k' h =>
    jR_inj (Option.some.inj (csem_inj (a := some (jR k)) (b := some (jR k')) h))
  refine (bigSep_subset (t := Finset.univ.map ⟨_, hinj⟩) fun x hx => ?_).trans ?_
  · obtain ⟨k, -, rfl⟩ := Finset.mem_map.mp hx
    exact Finset.mem_erase.mpr ⟨fun h => (by cases h), Finset.mem_univ _⟩
  · rw [bigSep_map]
    exact bigSep_mono fun k _ => Entails.of_eq (congrArg (fun t => (cred t : sProp 𝕄)) (launch_recv c k))

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = ended (blockOf m ρ) c from rfl, scopedRest0_eq, unscopedSems0_eq]
  unfold ended Pipeline.ownSems0
  iintro ⟨Hr, Hz, HzB⟩
  isplitl [HzB]; · iexact HzB
  isplitl [Hz]; · iexact Hz
  iexists (shared (blockOf m ρ)); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On the eight devices, for any float values and any memory with zero counters: every weakly fair execution ends, with each
    device's arrays as computed and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := deal (shared (blockOf m ρ))) (G' := ghost m ρ) (u₀ := u₀)
    (hu₀ := by
      unfold u₀
      iintro Hu
      ihave H := (ownU_pair _ _) $$ Hu
      icases H with ⟨HP, HX⟩
      imod (fund (shared (blockOf m ρ))) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.Exchange

end
-- ==== Proof.Largest.lean ====
/-
# The largest entries of a row

The mathematics of the kernel's selection over any linear order. A list of largest entries is described by its thresholds: the
`k`-th largest entry of a row reaches a threshold exactly if more than `k` entries of the row do.
-/
module

public import Mathlib.Data.Fintype.Card
public import Mathlib.Data.Fintype.BigOperators
public import Mathlib.Order.Interval.Finset.Fin
public import Mathlib.Data.List.Perm.Basic
public import Mathlib.Algebra.BigOperators.Fin

@[expose] public section

namespace Cert.Largest

variable {α : Type*} [LinearOrder α]

/-! ## Counting the entries that reach a threshold -/

/-- How many entries of a row are at least `θ`. -/
def reach {n : ℕ} (u : Fin n → α) (θ : α) : ℕ := (Finset.univ.filter fun j => θ ≤ u j).card

/-- `s` is the row `u` in ascending order. -/
def IsSort {n : ℕ} (u s : Fin n → α) : Prop :=
  ∃ σ : Fin n → Fin n, Function.Bijective σ ∧ (∀ k, s k = u (σ k)) ∧ ∀ i j, i < j → s i ≤ s j

theorem IsSort.mono {n : ℕ} {u s : Fin n → α} (h : IsSort u s) {i j : Fin n} (hij : i ≤ j) : s i ≤ s j := by
  obtain ⟨σ, _, _, hm⟩ := h
  rcases hij.lt_or_eq with h | h
  · exact hm i j h
  · exact h ▸ le_rfl

theorem IsSort.reach_eq {n : ℕ} {u s : Fin n → α} (h : IsSort u s) (θ : α) : reach s θ = reach u θ := by
  obtain ⟨σ, hb, hs, _⟩ := h
  unfold reach
  refine Finset.card_bij (fun k _ => σ k) (fun k hk => ?_) (fun a _ b _ e => hb.1 e) (fun j hj => ?_)
  · rw [Finset.mem_filter] at hk ⊢
    exact ⟨Finset.mem_univ _, hs k ▸ hk.2⟩
  · obtain ⟨k, rfl⟩ := hb.2 j
    refine ⟨k, ?_, rfl⟩
    rw [Finset.mem_filter] at hj ⊢
    exact ⟨Finset.mem_univ _, (hs k).symm ▸ hj.2⟩

/-- The entry at place `k` of the ascending row reaches `θ` exactly if the entries from there to the end are no more than those
    that do. -/
theorem IsSort.le_iff {n : ℕ} {u s : Fin n → α} (h : IsSort u s) (θ : α) (k : Fin n) : θ ≤ s k ↔ n - k.val ≤ reach u θ := by
  rw [← h.reach_eq θ]
  constructor
  · intro hk
    have hsub : Finset.Ici k ⊆ Finset.univ.filter fun j => θ ≤ s j := fun j hj => by
      rw [Finset.mem_filter]
      exact ⟨Finset.mem_univ _, hk.trans (h.mono (Finset.mem_Ici.mp hj))⟩
    have hc := Finset.card_le_card hsub
    rwa [Fin.card_Ici] at hc
  · intro hc
    by_contra hk
    have hsub : (Finset.univ.filter fun j => θ ≤ s j) ⊆ Finset.Ioi k := fun j hj => by
      rw [Finset.mem_filter] at hj
      rw [Finset.mem_Ioi]
      by_contra hjk
      exact hk (hj.2.trans (h.mono (not_lt.mp hjk)))
    have hc' := Finset.card_le_card hsub
    rw [Fin.card_Ioi] at hc'
    have := k.isLt
    unfold reach at hc
    omega

theorem IsSort.exists_eq {n : ℕ} {u s : Fin n → α} (h : IsSort u s) (k : Fin n) : ∃ j, s k = u j := by
  obtain ⟨σ, _, hs, _⟩ := h
  exact ⟨σ k, hs k⟩

theorem IsSort.exists_place {n : ℕ} {u s : Fin n → α} (h : IsSort u s) (j : Fin n) : ∃ k, s k = u j := by
  obtain ⟨σ, hb, hs, _⟩ := h
  obtain ⟨k, rfl⟩ := hb.2 j
  exact ⟨k, hs k⟩

/-- An entry below place `k` of the ascending row is at most the place before. -/
theorem IsSort.le_of_lt {n : ℕ} {u s : Fin n → α} (h : IsSort u s) {j k : Fin n} (hjk : k.val = j.val + 1) {i : Fin n} (hi : u i < s k) :
    u i ≤ s j := by
  obtain ⟨l, hl⟩ := h.exists_place i
  rw [← hl] at hi ⊢
  refine h.mono ?_
  by_contra hlj
  exact absurd hi (not_lt.mpr (h.mono (by rw [Fin.le_def]; rw [Fin.le_def] at hlj; omega)))

/-- Two values that reach the same thresholds are equal. -/
theorem eq_of_reach {a b : α} (h : ∀ θ, θ ≤ a ↔ θ ≤ b) : a = b :=
  le_antisymm ((h a).mp le_rfl) ((h b).mpr le_rfl)

/-- The entries that reach a threshold, counted over the two halves of a row. -/
theorem reach_halves {n : ℕ} (u : Fin (n + n) → α) (θ : α) :
    reach u θ = reach (fun j => u (Fin.castAdd n j)) θ + reach (fun j => u (Fin.natAdd n j)) θ := by
  unfold reach
  rw [Finset.card_filter, Finset.card_filter, Finset.card_filter, Fin.sum_univ_add]

/-! ## Five registers -/

/-- Five registers in descending order that hold the five largest of the values `vs` and of five copies of `lo`. -/
def Kept (lo : α) (vs : List α) (a b c d e : α) : Prop :=
  ∃ D : List α, (a :: b :: c :: d :: e :: D).Perm (vs ++ List.replicate 5 lo) ∧ b ≤ a ∧ c ≤ b ∧ d ≤ c ∧ e ≤ d ∧ ∀ x ∈ D, x ≤ e

theorem Kept.start (lo : α) : Kept lo [] lo lo lo lo lo :=
  ⟨[], List.Perm.refl _, le_rfl, le_rfl, le_rfl, le_rfl, fun _ h => absurd h List.not_mem_nil⟩

theorem perm_max_min (a x : α) (l : List α) : (max a x :: min a x :: l).Perm (a :: x :: l) := by
  rcases le_total a x with h | h
  · rw [max_eq_right h, min_eq_left h]; exact List.Perm.swap _ _ _
  · rw [max_eq_left h, min_eq_right h]

/-- A value inserted by a chain of maxima and minima. -/
theorem Kept.push {lo : α} {vs : List α} {a b c d e : α} (h : Kept lo vs a b c d e) (x : α) :
    Kept lo (x :: vs) (max a x) (max b (min a x)) (max c (min b (min a x))) (max d (min c (min b (min a x))))
      (max e (min d (min c (min b (min a x))))) := by
  obtain ⟨D, hp, hba, hcb, hdc, hed, hD⟩ := h
  refine ⟨min e (min d (min c (min b (min a x)))) :: D, ?_, ?_, ?_, ?_, ?_, ?_⟩
  · have step : ∀ (p q : α) (l l' : List α), l.Perm l' → (max p q :: min p q :: l).Perm (q :: p :: l') := fun p q l l' hl =>
      (perm_max_min p q l).trans ((List.Perm.swap _ _ _).trans ((hl.cons p).cons q))
    have h5 := perm_max_min e (min d (min c (min b (min a x)))) D
    have h5' := h5.trans (List.Perm.swap _ _ _)
    have h4 := (h5'.cons (max d (min c (min b (min a x))))).trans (step d (min c (min b (min a x))) _ _ (List.Perm.refl _))
    have h3 := (h4.cons (max c (min b (min a x)))).trans (step c (min b (min a x)) _ _ (List.Perm.refl _))
    have h2 := (h3.cons (max b (min a x))).trans (step b (min a x) _ _ (List.Perm.refl _))
    have h1 := (h2.cons (max a x)).trans (step a x _ _ (List.Perm.refl _))
    exact h1.trans (hp.cons x)
  · exact max_le (hba.trans (le_max_left _ _)) ((min_le_left _ _).trans (le_max_left _ _))
  · exact max_le (hcb.trans (le_max_left _ _)) ((min_le_left _ _).trans (le_max_left _ _))
  · exact max_le (hdc.trans (le_max_left _ _)) ((min_le_left _ _).trans (le_max_left _ _))
  · exact max_le (hed.trans (le_max_left _ _)) ((min_le_left _ _).trans (le_max_left _ _))
  · intro y hy
    rcases List.mem_cons.mp hy with rfl | hy
    · exact (min_le_left _ _).trans (le_max_left _ _)
    · exact (hD y hy).trans (le_max_left _ _)

/-- A register holds one of the values, or `lo`. -/
theorem Kept.source {lo : α} {vs : List α} {a b c d e : α} (h : Kept lo vs a b c d e) {y : α} (hy : y ∈ [a, b, c, d, e]) :
    y ∈ vs ∨ y = lo := by
  obtain ⟨D, hp, _⟩ := h
  have : y ∈ vs ++ List.replicate 5 lo := hp.mem_iff.mp (by
    simp only [List.mem_cons, List.not_mem_nil, or_false] at hy ⊢
    tauto)
  rcases List.mem_append.mp this with h | h
  · exact Or.inl h
  · exact Or.inr (List.eq_of_mem_replicate h)

/-- If at most five of the values reach `t`, which is at least `lo`, each of these is in a register. -/
theorem Kept.holds {lo : α} {vs : List α} {a b c d e : α} (h : Kept lo vs a b c d e) {t : α} (hlo : lo ≤ t)
    (hcount : vs.countP (fun y => decide (t ≤ y)) ≤ 5) {v : α} (hv : v ∈ vs) (htv : t ≤ v) : v ∈ [a, b, c, d, e] := by
  obtain ⟨D, hp, hba, hcb, hdc, hed, hD⟩ := h
  by_contra hnot
  simp only [List.mem_cons, List.not_mem_nil, or_false, not_or] at hnot
  obtain ⟨na, nb, nc, nd, ne⟩ := hnot
  have hvD : v ∈ D := by
    have := hp.mem_iff.mpr (List.mem_append_left (List.replicate 5 lo) hv)
    simp only [List.mem_cons] at this
    tauto
  have hve := hD v hvD
  have he : v < e := lt_of_le_of_ne hve ne
  have hd := he.trans_le hed
  have hc := hd.trans_le hdc
  have hb := hc.trans_le hcb
  have ha := hb.trans_le hba
  have h5 : 5 ≤ (vs ++ List.replicate 5 lo).countP (fun y => decide (v < y)) := by
    rw [← hp.countP_eq]
    simp only [List.countP_cons, decide_eq_true_eq, ha, hb, hc, hd, he, if_true]
    omega
  rw [List.countP_append] at h5
  have h0 : (List.replicate 5 lo).countP (fun y => decide (v < y)) = 0 := by
    rw [List.countP_eq_zero]
    intro y hy
    rw [List.eq_of_mem_replicate hy]
    simpa using hlo.trans htv
  have hmore : vs.countP (fun y => decide (v < y)) + 1 ≤ vs.countP (fun y => decide (t ≤ y)) := by
    have hpv := List.perm_cons_erase hv
    rw [hpv.countP_eq, hpv.countP_eq, List.countP_cons, List.countP_cons]
    have hle : (vs.erase v).countP (fun y => decide (v < y)) ≤ (vs.erase v).countP (fun y => decide (t ≤ y)) :=
      List.countP_mono_left fun y _ hy => by
        rw [decide_eq_true_eq] at hy ⊢
        exact htv.trans hy.le
    simp only [lt_irrefl, decide_false, htv, decide_true, if_true, Bool.false_eq_true, if_false]
    omega
  omega

/-- The first `n` values of a sequence, the last one first. -/
def firstOf (w : ℕ → α) : ℕ → List α
  | 0 => []
  | n + 1 => w n :: firstOf w n

theorem mem_firstOf (w : ℕ → α) (n : ℕ) (v : α) : v ∈ firstOf w n ↔ ∃ i, i < n ∧ v = w i := by
  induction n with
  | zero => simp [firstOf]
  | succ n ih =>
    rw [firstOf, List.mem_cons, ih]
    constructor
    · rintro (h | ⟨i, hi, h⟩)
      · exact ⟨n, Nat.lt_succ_self n, h⟩
      · exact ⟨i, Nat.lt_succ_of_lt hi, h⟩
    · rintro ⟨i, hi, h⟩
      rcases Nat.lt_succ_iff_lt_or_eq.mp hi with hi | rfl
      · exact Or.inr ⟨i, hi, h⟩
      · exact Or.inl h

theorem countP_firstOf (w : ℕ → α) (n : ℕ) (t : α) :
    (firstOf w n).countP (fun y => decide (t ≤ y)) = reach (fun i : Fin n => w i.val) t := by
  unfold reach
  rw [Finset.card_filter]
  induction n with
  | zero => rfl
  | succ n ih =>
    rw [firstOf, List.countP_cons, ih, Fin.sum_univ_castSucc]
    simp only [Fin.val_castSucc, Fin.val_last, decide_eq_true_eq]

/-! ## The largest entries one below the other -/

/-- Sixteen times the largest candidate below the last one: if the values `s` strictly descend, are not below `lo`, are candidates,
    and every candidate below one of them is at most the next, they are what is found. -/
theorem rounds {ι : Type*} (C : ι → α) (lo : α) (s t : ℕ → α) (K : ℕ)
    (h0 : IsGreatest (Set.range C) (t 0))
    (hS : ∀ k, IsGreatest (Set.range fun j => if C j < t k then C j else lo) (t (k + 1)))
    (hmem : ∀ k, k < K → ∃ j, C j = s k) (htop : ∀ j, C j ≤ s 0)
    (hnext : ∀ k, k + 1 < K → ∀ j, C j < s k → C j ≤ s (k + 1))
    (hdesc : ∀ k, k + 1 < K → s (k + 1) < s k) (hlo : ∀ k, k < K → lo ≤ s k) : ∀ k, k < K → t k = s k := by
  intro k
  induction k with
  | zero =>
    intro hk
    obtain ⟨j, hj⟩ := hmem 0 hk
    refine le_antisymm ?_ (hj ▸ h0.2 ⟨j, rfl⟩)
    obtain ⟨i, hi⟩ := h0.1
    exact hi ▸ htop i
  | succ k ih =>
    intro hk
    have e := ih (Nat.lt_of_succ_lt hk)
    have h := hS k
    rw [e] at h
    obtain ⟨j, hj⟩ := hmem (k + 1) hk
    refine le_antisymm ?_ ?_
    · obtain ⟨i, hi⟩ := h.1
      rw [← hi]
      show (if C i < s k then C i else lo) ≤ _
      split
      · rename_i hlt; exact hnext k hk i hlt
      · exact hlo _ hk
    · refine h.2 ⟨j, ?_⟩
      show (if C j < s k then C j else lo) = _
      rw [hj, if_pos (hdesc k hk)]

/-! ## The merging network -/

/-- One stage: of entries `s` apart the pairs' `mx` go below and their `mn` above. -/
def stage {β : Type*} (mx mn : β → β → β) (s : ℕ) (f : ℕ → β) (k : ℕ) : β :=
  if k / s % 2 = 0 then mx (f k) (f (k + s)) else mn (f (k - s)) (f k)

/-- The four stages of a merge of sixteen. -/
def net {β : Type*} (mx mn : β → β → β) (f : ℕ → β) : ℕ → β :=
  stage mx mn 1 (stage mx mn 2 (stage mx mn 4 (stage mx mn 8 f)))

theorem stage_congr {β : Type*} (mx mn : β → β → β) {s : ℕ} (hs : s = 8 ∨ s = 4 ∨ s = 2 ∨ s = 1) {f g : ℕ → β}
    (h : ∀ k, k < 16 → f k = g k) (k : ℕ) (hk : k < 16) : stage mx mn s f k = stage mx mn s g k := by
  unfold stage
  split
  · rw [h k hk, h (k + s) (by rcases hs with rfl | rfl | rfl | rfl <;> omega)]
  · rw [h k hk, h (k - s) (by omega)]

theorem net_congr {β : Type*} (mx mn : β → β → β) {f g : ℕ → β} (h : ∀ k, k < 16 → f k = g k) (k : ℕ) (hk : k < 16) :
    net mx mn f k = net mx mn g k :=
  stage_congr mx mn (by tauto) (stage_congr mx mn (by tauto) (stage_congr mx mn (by tauto) (stage_congr mx mn (by tauto) h))) k hk

theorem decide_stage (θ : α) (s : ℕ) (f : ℕ → α) (k : ℕ) :
    decide (θ ≤ stage max min s f k) = stage or and s (fun k => decide (θ ≤ f k)) k := by
  unfold stage
  split
  · simp only [le_max_iff, Bool.decide_or]
  · simp only [le_min_iff, Bool.decide_and]

theorem decide_net (θ : α) (f : ℕ → α) (k : ℕ) : decide (θ ≤ net max min f k) = net or and (fun k => decide (θ ≤ f k)) k := by
  unfold net
  simp only [decide_stage, funext (decide_stage θ _ _)]

set_option maxRecDepth 100000 in
/-- The network sorts every sequence of truth values that falls and rises again. -/
theorem net_bool : ∀ i j : Fin 17, ∀ k : Fin 16,
    net or and (fun k => Nat.ble (k + 1) i.val || Nat.ble (16 - k) j.val) k.val = Nat.ble (k.val + 1) (i.val + j.val) := by
  decide +kernel

/-- A descending row `d` and an ascending one, `e` backwards, merged: the result reaches a threshold at as many places as the two
    together do. -/
theorem le_net {d e : ℕ → α} {θ : α} {n₀ n₁ : ℕ} (hd : ∀ k, k < 16 → (θ ≤ d k ↔ k < n₀)) (he : ∀ k, k < 16 → (θ ≤ e k ↔ k < n₁))
    (k : ℕ) (hk : k < 16) : θ ≤ net max min (fun k => max (d k) (e (15 - k))) k ↔ k < n₀ + n₁ := by
  have h := decide_net θ (fun k => max (d k) (e (15 - k))) k
  have hb := net_bool ⟨min 16 n₀, by omega⟩ ⟨min 16 n₁, by omega⟩ ⟨k, hk⟩
  rw [net_congr or and (g := fun k => Nat.ble (k + 1) (min 16 n₀) || Nat.ble (16 - k) (min 16 n₁)) ?_ k hk] at h
  · rw [← decide_eq_true_iff (p := θ ≤ _), h]
    simp only at hb
    rw [hb, Nat.ble_eq]
    omega
  · intro k hk
    rw [Bool.eq_iff_iff]
    simp only [decide_eq_true_eq, le_max_iff, hd k hk, he (15 - k) (by omega), Bool.or_eq_true, Nat.ble_eq]
    omega

end Cert.Largest
-- ==== Proof.Merge.lean ====
/-
# The merge

Entry by entry the larger of the two halves' slots, then four stages that compare entries 8, 4, 2 and 1 apart: on each row the merging
network.
-/
module

public import proofs.«01_k».proof.Proof.Vals
public import proofs.«01_k».proof.Proof.Largest
public import Idealize.ShloMosaic.Lib.Pointwise

@[expose] public section

noncomputable section

namespace Cert.Exchange

open Idealize.ShloMosaic Cert.KernelIdeal Cert.KernelIdeal.Gen Cert.Largest

section
variable {F : FTy → Type} [FloatOps F]

/-- The two halves, entry by entry. -/
def larger (l0 l1 : Vec F S1x4x128x16 .f32) : FVec F S4x128x16 .f32 :=
  maximumf (shapeCast S4x128x16 l0 shapeCasts_S1x4x128x16_S4x128x16) (shapeCast S4x128x16 l1 shapeCasts_S1x4x128x16_S4x128x16)

/-- Entries 8 apart compared. -/
def apart8 (v : FVec F S4x128x16 .f32) : FVec F S4x128x16 .f32 :=
  concatenate S4x128x16 2
    [⟨S4x128x8, maximumf (extractStridedSlice S4x128x8 ![0, 0, 0] v slices_S4x128x16_o0_0_0_S4x128x8) (extractStridedSlice S4x128x8 ![0, 0, 8] v slices_S4x128x16_o0_0_8_S4x128x8)⟩,
      ⟨S4x128x8, minimumf (extractStridedSlice S4x128x8 ![0, 0, 0] v slices_S4x128x16_o0_0_0_S4x128x8) (extractStridedSlice S4x128x8 ![0, 0, 8] v slices_S4x128x16_o0_0_8_S4x128x8)⟩]
    concatenates_S4x128x8_S4x128x8_S4x128x16_d2

/-- Entries 4 apart compared. -/
def apart4 (v : FVec F S4x128x16 .f32) : FVec F S4x128x16 .f32 :=
  concatenate S4x128x16 2
    [⟨S4x128x4, maximumf (extractStridedSlice S4x128x4 ![0, 0, 0] v slices_S4x128x16_o0_0_0_S4x128x4) (extractStridedSlice S4x128x4 ![0, 0, 4] v slices_S4x128x16_o0_0_4_S4x128x4)⟩,
      ⟨S4x128x4, minimumf (extractStridedSlice S4x128x4 ![0, 0, 0] v slices_S4x128x16_o0_0_0_S4x128x4) (extractStridedSlice S4x128x4 ![0, 0, 4] v slices_S4x128x16_o0_0_4_S4x128x4)⟩,
      ⟨S4x128x4, maximumf (extractStridedSlice S4x128x4 ![0, 0, 8] v slices_S4x128x16_o0_0_8_S4x128x4) (extractStridedSlice S4x128x4 ![0, 0, 12] v slices_S4x128x16_o0_0_12_S4x128x4)⟩,
      ⟨S4x128x4, minimumf (extractStridedSlice S4x128x4 ![0, 0, 8] v slices_S4x128x16_o0_0_8_S4x128x4) (extractStridedSlice S4x128x4 ![0, 0, 12] v slices_S4x128x16_o0_0_12_S4x128x4)⟩]
    concatenates_S4x128x4_S4x128x4_S4x128x4_S4x128x4_S4x128x16_d2

/-- Entries 2 apart compared. -/
def apart2 (v : FVec F S4x128x16 .f32) : FVec F S4x128x16 .f32 :=
  concatenate S4x128x16 2
    [⟨S4x128x2, maximumf (extractStridedSlice S4x128x2 ![0, 0, 0] v slices_S4x128x16_o0_0_0_S4x128x2) (extractStridedSlice S4x128x2 ![0, 0, 2] v slices_S4x128x16_o0_0_2_S4x128x2)⟩,
      ⟨S4x128x2, minimumf (extractStridedSlice S4x128x2 ![0, 0, 0] v slices_S4x128x16_o0_0_0_S4x128x2) (extractStridedSlice S4x128x2 ![0, 0, 2] v slices_S4x128x16_o0_0_2_S4x128x2)⟩,
      ⟨S4x128x2, maximumf (extractStridedSlice S4x128x2 ![0, 0, 4] v slices_S4x128x16_o0_0_4_S4x128x2) (extractStridedSlice S4x128x2 ![0, 0, 6] v slices_S4x128x16_o0_0_6_S4x128x2)⟩,
      ⟨S4x128x2, minimumf (extractStridedSlice S4x128x2 ![0, 0, 4] v slices_S4x128x16_o0_0_4_S4x128x2) (extractStridedSlice S4x128x2 ![0, 0, 6] v slices_S4x128x16_o0_0_6_S4x128x2)⟩,
      ⟨S4x128x2, maximumf (extractStridedSlice S4x128x2 ![0, 0, 8] v slices_S4x128x16_o0_0_8_S4x128x2) (extractStridedSlice S4x128x2 ![0, 0, 10] v slices_S4x128x16_o0_0_10_S4x128x2)⟩,
      ⟨S4x128x2, minimumf (extractStridedSlice S4x128x2 ![0, 0, 8] v slices_S4x128x16_o0_0_8_S4x128x2) (extractStridedSlice S4x128x2 ![0, 0, 10] v slices_S4x128x16_o0_0_10_S4x128x2)⟩,
      ⟨S4x128x2, maximumf (extractStridedSlice S4x128x2 ![0, 0, 12] v slices_S4x128x16_o0_0_12_S4x128x2) (extractStridedSlice S4x128x2 ![0, 0, 14] v slices_S4x128x16_o0_0_14_S4x128x2)⟩,
      ⟨S4x128x2, minimumf (extractStridedSlice S4x128x2 ![0, 0, 12] v slices_S4x128x16_o0_0_12_S4x128x2) (extractStridedSlice S4x128x2 ![0, 0, 14] v slices_S4x128x16_o0_0_14_S4x128x2)⟩]
    concatenates_S4x128x2_S4x128x2_S4x128x2_S4x128x2_S4x128x2_S4x128x2_S4x128x2_S4x128x2_S4x128x16_d2

/-- Entries 1 apart compared. -/
def apart1 (v : FVec F S4x128x16 .f32) : FVec F S4x128x16 .f32 :=
  concatenate S4x128x16 2
    [⟨S4x128x1, maximumf (extractStridedSlice S4x128x1 ![0, 0, 0] v slices_S4x128x16_o0_0_0_S4x128x1) (extractStridedSlice S4x128x1 ![0, 0, 1] v slices_S4x128x16_o0_0_1_S4x128x1)⟩,
      ⟨S4x128x1, minimumf (extractStridedSlice S4x128x1 ![0, 0, 0] v slices_S4x128x16_o0_0_0_S4x128x1) (extractStridedSlice S4x128x1 ![0, 0, 1] v slices_S4x128x16_o0_0_1_S4x128x1)⟩,
      ⟨S4x128x1, maximumf (extractStridedSlice S4x128x1 ![0, 0, 2] v slices_S4x128x16_o0_0_2_S4x128x1) (extractStridedSlice S4x128x1 ![0, 0, 3] v slices_S4x128x16_o0_0_3_S4x128x1)⟩,
      ⟨S4x128x1, minimumf (extractStridedSlice S4x128x1 ![0, 0, 2] v slices_S4x128x16_o0_0_2_S4x128x1) (extractStridedSlice S4x128x1 ![0, 0, 3] v slices_S4x128x16_o0_0_3_S4x128x1)⟩,
      ⟨S4x128x1, maximumf (extractStridedSlice S4x128x1 ![0, 0, 4] v slices_S4x128x16_o0_0_4_S4x128x1) (extractStridedSlice S4x128x1 ![0, 0, 5] v slices_S4x128x16_o0_0_5_S4x128x1)⟩,
      ⟨S4x128x1, minimumf (extractStridedSlice S4x128x1 ![0, 0, 4] v slices_S4x128x16_o0_0_4_S4x128x1) (extractStridedSlice S4x128x1 ![0, 0, 5] v slices_S4x128x16_o0_0_5_S4x128x1)⟩,
      ⟨S4x128x1, maximumf (extractStridedSlice S4x128x1 ![0, 0, 6] v slices_S4x128x16_o0_0_6_S4x128x1) (extractStridedSlice S4x128x1 ![0, 0, 7] v slices_S4x128x16_o0_0_7_S4x128x1)⟩,
      ⟨S4x128x1, minimumf (extractStridedSlice S4x128x1 ![0, 0, 6] v slices_S4x128x16_o0_0_6_S4x128x1) (extractStridedSlice S4x128x1 ![0, 0, 7] v slices_S4x128x16_o0_0_7_S4x128x1)⟩,
      ⟨S4x128x1, maximumf (extractStridedSlice S4x128x1 ![0, 0, 8] v slices_S4x128x16_o0_0_8_S4x128x1) (extractStridedSlice S4x128x1 ![0, 0, 9] v slices_S4x128x16_o0_0_9_S4x128x1)⟩,
      ⟨S4x128x1, minimumf (extractStridedSlice S4x128x1 ![0, 0, 8] v slices_S4x128x16_o0_0_8_S4x128x1) (extractStridedSlice S4x128x1 ![0, 0, 9] v slices_S4x128x16_o0_0_9_S4x128x1)⟩,
      ⟨S4x128x1, maximumf (extractStridedSlice S4x128x1 ![0, 0, 10] v slices_S4x128x16_o0_0_10_S4x128x1) (extractStridedSlice S4x128x1 ![0, 0, 11] v slices_S4x128x16_o0_0_11_S4x128x1)⟩,
      ⟨S4x128x1, minimumf (extractStridedSlice S4x128x1 ![0, 0, 10] v slices_S4x128x16_o0_0_10_S4x128x1) (extractStridedSlice S4x128x1 ![0, 0, 11] v slices_S4x128x16_o0_0_11_S4x128x1)⟩,
      ⟨S4x128x1, maximumf (extractStridedSlice S4x128x1 ![0, 0, 12] v slices_S4x128x16_o0_0_12_S4x128x1) (extractStridedSlice S4x128x1 ![0, 0, 13] v slices_S4x128x16_o0_0_13_S4x128x1)⟩,
      ⟨S4x128x1, minimumf (extractStridedSlice S4x128x1 ![0, 0, 12] v slices_S4x128x16_o0_0_12_S4x128x1) (extractStridedSlice S4x128x1 ![0, 0, 13] v slices_S4x128x16_o0_0_13_S4x128x1)⟩,
      ⟨S4x128x1, maximumf (extractStridedSlice S4x128x1 ![0, 0, 14] v slices_S4x128x16_o0_0_14_S4x128x1) (extractStridedSlice S4x128x1 ![0, 0, 15] v slices_S4x128x16_o0_0_15_S4x128x1)⟩,
      ⟨S4x128x1, minimumf (extractStridedSlice S4x128x1 ![0, 0, 14] v slices_S4x128x16_o0_0_14_S4x128x1) (extractStridedSlice S4x128x1 ![0, 0, 15] v slices_S4x128x16_o0_0_15_S4x128x1)⟩]
    concatenates_S4x128x1_S4x128x1_S4x128x1_S4x128x1_S4x128x1_S4x128x1_S4x128x1_S4x128x1_S4x128x1_S4x128x1_S4x128x1_S4x128x1_S4x128x1_S4x128x1_S4x128x1_S4x128x1_S4x128x16_d2

theorem merged_eq (l0 l1 : Vec F S1x4x128x16 .f32) :
    merged l0 l1 = shapeCast S512x16 (apart1 (apart2 (apart4 (apart8 (larger l0 l1))))) shapeCasts_S4x128x16_S512x16 := rfl

end

/-- A row of a slot array, by natural numbers. -/
def line (v : S4x128x16.Idx → EReal) (q : Fin 4) (i : Fin 128) (k : ℕ) : EReal := if h : k < 16 then v (ix3 q i ⟨k, h⟩) else ⊥

theorem line_eq (v : S4x128x16.Idx → EReal) (q : Fin 4) (i : Fin 128) (k : Fin 16) : line v q i k.val = v (ix3 q i k) := dif_pos k.isLt

set_option maxHeartbeats 1000000 in
theorem apart8_at (v : S4x128x16.Idx → EReal) (q : Fin 4) (i : Fin 128) (k : Fin 16) :
    apart8 (F := Ideal) v (ix3 q i k) = stage max min 8 (line v q i) k.val := by
  unfold apart8
  fin_cases k <;> (pointwise; rfl)

set_option maxHeartbeats 1000000 in
theorem apart4_at (v : S4x128x16.Idx → EReal) (q : Fin 4) (i : Fin 128) (k : Fin 16) :
    apart4 (F := Ideal) v (ix3 q i k) = stage max min 4 (line v q i) k.val := by
  unfold apart4
  fin_cases k <;> (pointwise; rfl)

set_option maxHeartbeats 1000000 in
theorem apart2_at (v : S4x128x16.Idx → EReal) (q : Fin 4) (i : Fin 128) (k : Fin 16) :
    apart2 (F := Ideal) v (ix3 q i k) = stage max min 2 (line v q i) k.val := by
  unfold apart2
  fin_cases k <;> (pointwise; rfl)

set_option maxHeartbeats 1000000 in
theorem apart1_at (v : S4x128x16.Idx → EReal) (q : Fin 4) (i : Fin 128) (k : Fin 16) :
    apart1 (F := Ideal) v (ix3 q i k) = stage max min 1 (line v q i) k.val := by
  unfold apart1
  fin_cases k <;> (pointwise; rfl)

end Cert.Exchange

end
-- ==== Proof.Sorted.lean ====
/-
# What the host's sorts amount to on extended reals

The comparators that stand in the programs replace a zero by zero and what is no number by one fixed value before they compare: on
extended reals they are the order itself. A sorted fiber is then the fiber in ascending order.
-/
module

public import proofs.«01_k».proof.ReferenceIdeal
public import proofs.«01_k».proof.Pre_top16_readable_KernelIdeal
public import proofs.«01_k».proof.Proof.Largest
public import Idealize.ShloMosaic.Lib.SortFacts
public import Idealize.ShloMosaic.PureOps.Ideal
public import Idealize.ShloMosaic.Lib.Pointwise

@[expose] public section

noncomputable section

namespace Cert.Sorted

open Idealize.ShloMosaic Cert.Largest

theorem cmp_olt_eq_one (x y : EReal) : Ideal.cmp .olt x y = 1#1 ↔ x < y := by
  show BitVec.ofBool (decide (x < y)) = 1#1 ↔ _
  by_cases h : x < y <;> simp [h]

theorem cmp_oge_eq_one (x y : EReal) : Ideal.cmp .oge x y = 1#1 ↔ y ≤ x := by
  show BitVec.ofBool (decide (y ≤ x)) = 1#1 ↔ _
  by_cases h : y ≤ x <;> simp [h]

/-- What the comparators make of a value before they compare: nothing. -/
theorem canonical (x n : EReal) :
    Scalar.select (Ideal.cmp .une x x) n (Scalar.select (Ideal.cmp .oeq x (Ideal.ofBits .f32 0x00000000#32)) (Ideal.ofBits .f32 0x00000000#32) x) = x := by
  have h : Ideal.cmp .une x x = 0#1 := by
    show BitVec.ofBool (decide (x ≠ x)) = 0#1
    simp
  rw [h]
  show Scalar.select (Ideal.cmp .oeq x _) _ x = x
  by_cases hx : x = Ideal.ofBits .f32 0x00000000#32
  · have h1 : Ideal.cmp .oeq x (Ideal.ofBits .f32 0x00000000#32) = 1#1 := by
      show BitVec.ofBool (decide (x = _)) = 1#1
      simp [hx]
    rw [h1]; exact hx.symm
  · have h1 : Ideal.cmp .oeq x (Ideal.ofBits .f32 0x00000000#32) = 0#1 := by
      show BitVec.ofBool (decide (x = _)) = 0#1
      rw [decide_eq_false hx]; rfl
    rw [h1]; rfl

/-- The sort of one operand compares by the order. -/
theorem comparator_one [Cert.Pre_top16_readable_KernelIdeal.Facts] (x y : EReal) :
    Cert.Pre_top16_readable_KernelIdeal.comparator_f32_d1 (F := Ideal) x y = 1#1 ↔ x < y := by
  have h : Cert.Pre_top16_readable_KernelIdeal.comparator_f32_d1 (F := Ideal) x y = Ideal.cmp .olt x y :=
    congrArg₂ (Ideal.cmp .olt) (canonical x _) (canonical y _)
  rw [h, cmp_olt_eq_one]

/-- The sort that carries the positions compares by the values' order. -/
theorem comparator_two [Cert.ReferenceIdeal.Facts] (x y : EReal × BitVec 32) :
    Cert.ReferenceIdeal.comparator_f32_i32_d1 (F := Ideal) x y = 1#1 ↔ x.1 < y.1 := by
  have h : Cert.ReferenceIdeal.comparator_f32_i32_d1 (F := Ideal) x y = Ideal.cmp .olt x.1 y.1 :=
    congrArg₂ (Ideal.cmp .olt) (canonical x.1 _) (canonical y.1 _)
  rw [h, cmp_olt_eq_one]

/-- A sorting permutation under the order of some keys puts the keys in ascending order. -/
theorem isSort_sortedFrom {n : ℕ} {β : Type*} [LinearOrder β] (u : Fin n → β) (R : Fin n → Fin n → Bool) (hR : ∀ i j, R i j = true ↔ u i < u j) :
    IsSort u fun k => u (sortedFrom R k) := by
  refine ⟨sortedFrom R, ⟨sortedFrom_injective R, sortedFrom_surjective R⟩, fun _ => rfl, fun i j hij => ?_⟩
  have h := sortedFrom_noInversion R R (fun a b h => ?_) (fun _ _ h => h) (fun a b c hab hbc => ?_) i j hij
  · rw [Bool.eq_false_iff, Ne, hR, not_lt] at h
    exact h
  · rw [Bool.eq_false_iff, Ne, hR, not_lt]
    exact ((hR a b).mp h).le
  · rw [Bool.eq_false_iff, Ne, hR, not_lt] at hab hbc ⊢
    exact hbc.trans hab

/-- A sorted fiber, along an axis, of an array that is compared by the order. -/
theorem isSort_sort (s : Shape) (a : Fin s.rank) (cmp : EReal → EReal → BitVec 1) (hc : ∀ x y, cmp x y = 1#1 ↔ x < y) (x : s.Idx → EReal) (j : s.Idx) :
    IsSort (fun k : Fin (s.size a) => x (j.along a k)) (fun k : Fin (s.size a) => Host.sort s a.val cmp x (j.along a k)) := by
  have h := isSort_sortedFrom (fun k : Fin (s.size a) => x (j.along a k))
    (fun k k' => cmp (x (j.along a k)) (x (j.along a k')) == 1#1) (fun i i' => by rw [beq_iff_eq]; exact hc _ _)
  have e : (fun k : Fin (s.size a) => Host.sort s a.val cmp x (j.along a k)) =
      fun k => x (j.along a (sortedFrom (fun k k' => cmp (x (j.along a k)) (x (j.along a k')) == 1#1) k)) := by
    funext k
    have ha : ∀ i, (j.along a k).along a i = j.along a i := fun i => by
      funext b
      by_cases hb : b = a
      · subst hb; simp [Shape.Idx.along]
      · simp [Shape.Idx.along, hb]
    have hk : (j.along a k) a = k := by simp [Shape.Idx.along]
    unfold Host.sort
    rw [dif_pos a.isLt]
    simp only [Fin.eta, ha, hk]
  rw [e]
  exact h

end Cert.Sorted

end
-- ==== Proof.Readable.lean ====
/-
# What the precondition says of a row

The sixteen largest entries of a block's row differ, the least of them is no lower than the least finite value, and no lane holds more
than five of them.
-/
module

public import proofs.«01_k».proof.Proof.Sorted

@[expose] public section

noncomputable section

namespace Cert.Readable

open Idealize.ShloMosaic Cert.Largest Cert.Pre_top16_readable_KernelIdeal

/-- The least finite value. -/
abbrev lowest : EReal := Ideal.ofBits .f32 0xFF7FFFFF#32

/-- An entry's lane is its place modulo 128. -/
def lane (u : Fin 4096 → EReal) (l : Fin 128) (n : Fin 32) : EReal := u ⟨128 * n.val + l.val, by omega⟩

/-- A row `u` with its ascending order `s`, of which the sixteen largest can be read off the lanes. -/
structure Row (u s : Fin 4096 → EReal) : Prop where
  sorted : IsSort u s
  distinct : ∀ k : Fin 15, s ⟨4080 + k.val, by omega⟩ < s ⟨4081 + k.val, by omega⟩
  low : lowest ≤ s 4080
  lanes : ∀ l : Fin 128, reach (lane u l) (s 4080) ≤ 5

variable [Facts]

def rows (x : S512x4096.Idx → EReal) (r : Fin 512) (k : Fin 4096) : EReal :=
  Host.sort S512x4096 1 (comparator_f32_d1 (F := Ideal)) x (ix2 r k)

theorem isSort_rows (x : S512x4096.Idx → EReal) (r : Fin 512) : IsSort (fun j => x (ix2 r j)) (rows x r) := by
  have ha : ∀ i : Fin 4096, Shape.Idx.along (s := S512x4096) (ix2 r 0) 1 i = ix2 r i := fun i => by
    funext b
    match b with
    | ⟨0, _⟩ => rfl
    | ⟨1, _⟩ => rfl
  have h := Sorted.isSort_sort S512x4096 1 (comparator_f32_d1 (F := Ideal)) Sorted.comparator_one x (ix2 r 0)
  have e1 : (fun k : Fin 4096 => x (Shape.Idx.along (s := S512x4096) (ix2 r 0) 1 k)) = fun j => x (ix2 r j) := funext fun i => congrArg x (ha i)
  have e2 : (fun k : Fin 4096 => Host.sort S512x4096 1 (comparator_f32_d1 (F := Ideal)) x (Shape.Idx.along (s := S512x4096) (ix2 r 0) 1 k)) = rows x r :=
    funext fun i => congrArg (Host.sort S512x4096 1 (comparator_f32_d1 (F := Ideal)) x) (ha i)
  rw [← e1, ← e2]
  exact h

def lanes (x : S512x4096.Idx → EReal) (r : Fin 512) (l : Fin 128) (n : Fin 32) : EReal :=
  Host.sort S512x32x128 1 (comparator_f32_d1 (F := Ideal)) (shapeCast S512x32x128 x Facts.shapeCasts_S512x4096_S512x32x128) (ix3 r n l)

theorem isSort_lanes (x : S512x4096.Idx → EReal) (r : Fin 512) (l : Fin 128) : IsSort (lane (fun j => x (ix2 r j)) l) (lanes x r l) := by
  have ha : ∀ i : Fin 32, Shape.Idx.along (s := S512x32x128) (ix3 r 0 l) 1 i = ix3 r i l := fun i => by
    funext b
    match b with
    | ⟨0, _⟩ => rfl
    | ⟨1, _⟩ => rfl
    | ⟨2, _⟩ => rfl
  have h := Sorted.isSort_sort S512x32x128 1 (comparator_f32_d1 (F := Ideal)) Sorted.comparator_one
    (shapeCast S512x32x128 x Facts.shapeCasts_S512x4096_S512x32x128) (ix3 r 0 l)
  have e1 : (fun k : Fin 32 => shapeCast S512x32x128 x Facts.shapeCasts_S512x4096_S512x32x128 (Shape.Idx.along (s := S512x32x128) (ix3 r 0 l) 1 k)) =
      lane (fun j => x (ix2 r j)) l := funext fun i => by
    rw [show Shape.Idx.along (s := S512x32x128) (ix3 r 0 l) 1 i = ix3 r i l from ha i]
    unfold lane
    pointwise
    have e : (⟨i.val * 128 + l.val, by omega⟩ : Fin 4096) = ⟨128 * i.val + l.val, by omega⟩ := by rw [Fin.mk.injEq, Nat.mul_comm]
    exact congrArg (fun j : Fin 4096 => x (ix2 r j)) e
  have e2 : (fun k : Fin 32 => Host.sort S512x32x128 1 (comparator_f32_d1 (F := Ideal)) (shapeCast S512x32x128 x Facts.shapeCasts_S512x4096_S512x32x128)
      (Shape.Idx.along (s := S512x32x128) (ix3 r 0 l) 1 k)) = lanes x r l :=
    funext fun i => congrArg (Host.sort S512x32x128 1 (comparator_f32_d1 (F := Ideal)) (shapeCast S512x32x128 x Facts.shapeCasts_S512x4096_S512x32x128)) (ha i)
  rw [← e1, ← e2]
  exact h

/-- The precondition, row by row. -/
theorem row (x : S512x4096.Idx → EReal) (h0 : (fn (F := Ideal) x).1 = fun _ => 1#1) (h1 : (fn (F := Ideal) x).2.1 = fun _ => 1#1)
    (h2 : (fn (F := Ideal) x).2.2 = fun _ => 1#1) (r : Fin 512) : Row (fun j => x (ix2 r j)) (rows x r) := by
  refine ⟨isSort_rows x r, fun k => ?_, ?_, fun l => ?_⟩
  · have h := (Sorted.cmp_olt_eq_one _ _).mp (congrFun h0 (ix2 r k))
    pointwise [fn_sort] at h
    have e : (⟨4081 + k.val, by omega⟩ : Fin 4096) = ⟨4080 + (1 + k.val), by omega⟩ := by rw [Fin.mk.injEq]; omega
    rw [e]
    exact h
  · have h := (Sorted.cmp_oge_eq_one _ _).mp (congrFun h1 (ix2 r 0))
    pointwise [fn_sort] at h
    exact h
  · have h := (Sorted.cmp_olt_eq_one _ _).mp (congrFun h2 (ix2 r l))
    pointwise [fn_sort, fn_sort_0] at h
    have h' : lanes x r l 26 < rows x r 4080 := h
    by_contra hc
    have hle := (isSort_lanes x r l).le_iff (rows x r 4080) 26
    exact absurd (hle.mpr (by show 32 - 26 ≤ _; omega)) (not_le.mpr h')

end Cert.Readable

end
-- ==== Proof.Device.lean ====
/-
# What a device stores

The registers of a lane hold its five largest entries, so the candidates of a row hold its sixteen largest, and sixteen rounds of the
largest candidate below the last one read them off in order.
-/
module

public import proofs.«01_k».proof.Proof.Vals
public import proofs.«01_k».proof.Proof.Readable
public import Idealize.ShloMosaic.Lib.Pointwise

@[expose] public section

noncomputable section

namespace Cert.Exchange

open Idealize.ShloMosaic Cert.KernelIdeal Cert.KernelIdeal.Gen Cert.Largest

/-- The row of a device's block that the device reads at `i`. -/
def place (c : Dev nD) (i : Fin 128) : Fin 512 :=
  ⟨256 * (c.val / 4) + 128 * ((c.val / 2) % 2) + i.val, by have : c.val < 8 := c.isLt; omega⟩

/-- The row itself. -/
def own (X : Block Ideal) (c : Dev nD) (i : Fin 128) (j : Fin 4096) : EReal := (X : S512x4096.Idx → EReal) (ix2 (place c i) j)

/-- A lane of it, block by block. -/
def lanes (X : Block Ideal) (c : Dev nD) (i l : Fin 128) (n : ℕ) : EReal := own X c i ⟨128 * (n % 32) + l.val, by omega⟩

theorem col_at (X : Block Ideal) (c : Dev nD) (n : ℕ) (i l : Fin 128) : col X c n (ix2 i l) = lanes X c i l n := by
  unfold col chunk
  pointwise
  refine congrArg (X : S512x4096.Idx → EReal) (funext fun a => ?_)
  match a with
  | ⟨0, _⟩ => exact Fin.ext (congrArg (256 * (c.val / 4) + 128 * ((c.val / 2) % 2) + ·) (Nat.one_mul i.val))
  | ⟨1, _⟩ => exact Fin.ext (congrArg (128 * (n % 32) + ·) (Nat.one_mul l.val))

/-! ## The registers -/

/-- The registers of a lane hold its five largest entries. -/
theorem regs_kept (X : Block Ideal) (c : Dev nD) (i l : Fin 128) (n : ℕ) :
    Kept Readable.lowest (firstOf (lanes X c i l) n) ((regs X c n).a (ix2 i l)) ((regs X c n).b (ix2 i l)) ((regs X c n).c (ix2 i l))
      ((regs X c n).d (ix2 i l)) ((regs X c n).e (ix2 i l)) := by
  induction n with
  | zero => exact Kept.start _
  | succ n ih =>
    have h := ih.push (col X c n (ix2 i l))
    rw [firstOf, ← col_at]
    exact h

/-- The registers by number. -/
def Regs.at (r : Regs Ideal) (p : Fin 5) (i l : Fin 128) : EReal :=
  ![r.a (ix2 i l), r.b (ix2 i l), r.c (ix2 i l), r.d (ix2 i l), r.e (ix2 i l)] p

theorem Regs.at_mem (r : Regs Ideal) (p : Fin 5) (i l : Fin 128) :
    r.at p i l ∈ [r.a (ix2 i l), r.b (ix2 i l), r.c (ix2 i l), r.d (ix2 i l), r.e (ix2 i l)] := by
  unfold Regs.at
  fin_cases p <;> simp

theorem Regs.exists_at (r : Regs Ideal) (i l : Fin 128) {y : EReal}
    (h : y ∈ [r.a (ix2 i l), r.b (ix2 i l), r.c (ix2 i l), r.d (ix2 i l), r.e (ix2 i l)]) : ∃ p, r.at p i l = y := by
  simp only [List.mem_cons, List.not_mem_nil, or_false] at h
  rcases h with h | h | h | h | h
  · exact ⟨0, h.symm⟩
  · exact ⟨1, h.symm⟩
  · exact ⟨2, h.symm⟩
  · exact ⟨3, h.symm⟩
  · exact ⟨4, h.symm⟩

/-! ## The candidates -/

theorem cand_at (X : Block Ideal) (c : Dev nD) (i l : Fin 128) (p : Fin 5) :
    cand X c (ix2 i ⟨128 * p.val + l.val, by omega⟩) = (regs X c 32).at p i l := by
  unfold cand
  generalize regs X c 32 = r
  have hl := l.isLt
  fin_cases p
  · pointwise; rfl
  · pointwise; rfl
  · pointwise
    rw [dif_neg (by omega), dif_neg (by omega), dif_pos (by omega)]
    exact congrArg (fun l => r.c (ix2 i l)) (Fin.ext (by show 256 + l.val - 128 - 128 = l.val; omega))
  · pointwise
    rw [dif_neg (by omega), dif_neg (by omega), dif_neg (by omega), dif_pos (by omega)]
    exact congrArg (fun l => r.d (ix2 i l)) (Fin.ext (by show 384 + l.val - 128 - 128 - 128 = l.val; omega))
  · pointwise
    rw [dif_neg (by omega), dif_neg (by omega), dif_neg (by omega), dif_neg (by omega)]
    exact congrArg (fun l => r.e (ix2 i l)) (Fin.ext (by show 512 + l.val - 128 - 128 - 128 - 128 = l.val; omega))

/-- The candidates of a row. -/
def cands (X : Block Ideal) (c : Dev nD) (i : Fin 128) (j : Fin 640) : EReal := cand X c (ix2 i j)

theorem cands_reg (X : Block Ideal) (c : Dev nD) (i : Fin 128) (j : Fin 640) : ∃ p l, cands X c i j = (regs X c 32).at p i l := by
  refine ⟨⟨j.val / 128, by omega⟩, ⟨j.val % 128, by omega⟩, ?_⟩
  rw [← cand_at]
  have e : j = ⟨128 * (j.val / 128) + j.val % 128, by omega⟩ := Fin.ext (Nat.div_add_mod j.val 128).symm
  exact congrArg (fun j : Fin 640 => cand X c (ix2 i j)) e

/-- Every candidate is an entry of the row or the least finite value. -/
theorem cands_source (X : Block Ideal) (c : Dev nD) (i : Fin 128) (j : Fin 640) :
    (∃ m, cands X c i j = own X c i m) ∨ cands X c i j = Readable.lowest := by
  obtain ⟨p, l, h⟩ := cands_reg X c i j
  rcases (regs_kept X c i l 32).source ((regs X c 32).at_mem p i l) with hv | hv
  · obtain ⟨n, _, hn⟩ := (mem_firstOf _ _ _).mp hv
    exact .inl ⟨_, h.trans hn⟩
  · exact .inr (h.trans hv)

/-- An entry that reaches a threshold no lane reaches more than five times is a candidate. -/
theorem cands_holds (X : Block Ideal) (c : Dev nD) (i : Fin 128) {t : EReal} (hlo : Readable.lowest ≤ t)
    (hl : ∀ l, reach (Readable.lane (own X c i) l) t ≤ 5) (m : Fin 4096) (hm : t ≤ own X c i m) : ∃ j, cands X c i j = own X c i m := by
  have hlane : ∀ (l : Fin 128) (n : Fin 32), lanes X c i l n.val = Readable.lane (own X c i) l n := fun l n => by
    have e : (⟨128 * (n.val % 32) + l.val, by omega⟩ : Fin 4096) = ⟨128 * n.val + l.val, by omega⟩ := by
      rw [Fin.mk.injEq, Nat.mod_eq_of_lt n.isLt]
    exact congrArg (own X c i) e
  let l : Fin 128 := ⟨m.val % 128, by omega⟩
  have hcount : (firstOf (lanes X c i l) 32).countP (fun y => decide (t ≤ y)) ≤ 5 := by
    rw [countP_firstOf, show (fun n : Fin 32 => lanes X c i l n.val) = Readable.lane (own X c i) l from funext (hlane l)]
    exact hl l
  have hv : own X c i m ∈ firstOf (lanes X c i l) 32 := by
    refine (mem_firstOf _ _ _).mpr ⟨m.val / 128, by omega, ?_⟩
    have e : m = ⟨128 * (m.val / 128 % 32) + m.val % 128, by omega⟩ := Fin.ext (by show m.val = 128 * (m.val / 128 % 32) + m.val % 128; omega)
    exact congrArg (own X c i) e
  obtain ⟨p, hp⟩ := (regs X c 32).exists_at i l ((regs_kept X c i l 32).holds hlo hcount hv hm)
  exact ⟨_, (cand_at X c i l p).trans hp⟩

/-! ## The rounds -/

theorem rowMax_greatest (v : FVec Ideal S128x640 .f32) (i : Fin 128) :
    IsGreatest (Set.range fun j : Fin 640 => (v (ix2 i j) : EReal)) (rowMax v (ix2 i 0)) := by
  have e : rowMax v (ix2 i 0) = (Finset.univ : Finset (Fin 640)).fold max (⊥ : EReal) fun j => v (ix2 i j) := by
    unfold rowMax
    pointwise
    rw [show Ideal.ofBits .f32 0xFF800000#32 = (⊥ : EReal) from by simp [Ideal.ofBits, Ideal.ieee]]
  rw [e]
  have h := (Finset.le_fold_max (b := (⊥ : EReal)) (f := fun j : Fin 640 => (v (ix2 i j) : EReal)) (s := Finset.univ) _).mp le_rfl
  have hub : ∀ j : Fin 640, (v (ix2 i j) : EReal) ≤ (Finset.univ : Finset (Fin 640)).fold max (⊥ : EReal) fun j => v (ix2 i j) :=
    fun j => (Finset.le_fold_max _).mpr (.inr ⟨j, Finset.mem_univ _, le_rfl⟩)
  refine ⟨?_, ?_⟩
  · rcases h with h | ⟨j, _, h⟩
    · exact ⟨0, le_antisymm (hub 0) (h.trans bot_le)⟩
    · exact ⟨j, le_antisymm (hub j) h⟩
  · rintro _ ⟨j, rfl⟩
    exact hub j

theorem below_at (v : FVec Ideal S128x640 .f32) (t : FVec Ideal S128x1 .f32) (i : Fin 128) (j : Fin 640) :
    (below v t (ix2 i j) : EReal) = if (v (ix2 i j) : EReal) < t (ix2 i 0) then v (ix2 i j) else Readable.lowest := by
  unfold below spread
  pointwise

/-- The `k`-th largest entry of an ascending row. -/
def top (s : Fin 4096 → EReal) (k : ℕ) : EReal := s ⟨4095 - k, by omega⟩

/-- The rounds read off the sixteen largest entries of the row. -/
theorem ext_at (X : Block Ideal) (c : Dev nD) (i : Fin 128) (s : Fin 4096 → EReal) (h : Readable.Row (own X c i) s) :
    ∀ k, k < 16 → (ext (cand X c) k (ix2 i 0) : EReal) = top s k := by
  have hs : s 4080 = s ⟨4080, by omega⟩ := rfl
  have hmin : ∀ k, k < 16 → s ⟨4080, by omega⟩ ≤ top s k := fun k hk => h.sorted.mono (by rw [Fin.mk_le_mk]; omega)
  have hlow : Readable.lowest ≤ s ⟨4080, by omega⟩ := h.low
  refine rounds (cands X c i) Readable.lowest (top s) (fun k => ext (cand X c) k (ix2 i 0)) 16 (rowMax_greatest _ i) (fun k => ?_)
    (fun k hk => ?_) (fun j => ?_) (fun k hk j hj => ?_) (fun k hk => ?_) (fun k hk => hlow.trans (hmin k hk))
  · have hg := rowMax_greatest (below (cand X c) (ext (cand X c) k)) i
    simp only [below_at] at hg
    exact hg
  · obtain ⟨m, hm⟩ := h.sorted.exists_eq ⟨4095 - k, by omega⟩
    have ht : s ⟨4080, by omega⟩ ≤ own X c i m := (hmin k hk).trans hm.le
    obtain ⟨j, hj⟩ := cands_holds X c i hlow h.lanes m ht
    exact ⟨j, hj.trans hm.symm⟩
  · rcases cands_source X c i j with ⟨m, hm⟩ | hm
    · obtain ⟨p, hp⟩ := h.sorted.exists_place m
      rw [hm, ← hp]
      exact h.sorted.mono (by rw [Fin.le_def]; show p.val ≤ 4095 - 0; omega)
    · rw [hm]; exact hlow.trans (hmin 0 (by omega))
  · rcases cands_source X c i j with ⟨m, hm⟩ | hm
    · rw [hm] at hj ⊢
      exact h.sorted.le_of_lt (j := ⟨4095 - (k + 1), by omega⟩) (k := ⟨4095 - k, by omega⟩) (by show 4095 - k = 4095 - (k + 1) + 1; omega) hj
    · rw [hm]; exact hlow.trans (hmin (k + 1) hk)
  · have hd := h.distinct ⟨14 - k, by omega⟩
    have e1 : (⟨4080 + (14 - k), by omega⟩ : Fin 4096) = ⟨4095 - (k + 1), by omega⟩ := by rw [Fin.mk.injEq]; omega
    have e2 : (⟨4081 + (14 - k), by omega⟩ : Fin 4096) = ⟨4095 - k, by omega⟩ := by rw [Fin.mk.injEq]; omega
    show s _ < s _
    rw [← e1, ← e2]
    exact hd

/-! ## The slot -/

theorem zword_eq (c : Dev nD) : Scalar.cmpi .eq (zword c) 0#32 = if c.val % 2 = 0 then 1#1 else 0#1 := by
  revert c; decide +kernel

/-- A slot from its sixteen columns, as the kernel builds it. -/
def slotOf (z : BitVec 32) (w : ℕ → FVec Ideal S128x1 .f32) : FVec Ideal S1x1x128x16 .f32 :=
  shapeCast S1x1x128x16 (Scalar.select (Scalar.cmpi .eq z 0#32)
    (concatenate S128x16 1 [⟨S128x1, w 0⟩, ⟨S128x1, w 1⟩, ⟨S128x1, w 2⟩, ⟨S128x1, w 3⟩, ⟨S128x1, w 4⟩, ⟨S128x1, w 5⟩, ⟨S128x1, w 6⟩, ⟨S128x1, w 7⟩, ⟨S128x1, w 8⟩, ⟨S128x1, w 9⟩, ⟨S128x1, w 10⟩, ⟨S128x1, w 11⟩, ⟨S128x1, w 12⟩, ⟨S128x1, w 13⟩, ⟨S128x1, w 14⟩, ⟨S128x1, w 15⟩] concatenates_S128x1_S128x1_S128x1_S128x1_S128x1_S128x1_S128x1_S128x1_S128x1_S128x1_S128x1_S128x1_S128x1_S128x1_S128x1_S128x1_S128x16_d1)
    (concatenate S128x16 1 [⟨S128x1, w 15⟩, ⟨S128x1, w 14⟩, ⟨S128x1, w 13⟩, ⟨S128x1, w 12⟩, ⟨S128x1, w 11⟩, ⟨S128x1, w 10⟩, ⟨S128x1, w 9⟩, ⟨S128x1, w 8⟩, ⟨S128x1, w 7⟩, ⟨S128x1, w 6⟩, ⟨S128x1, w 5⟩, ⟨S128x1, w 4⟩, ⟨S128x1, w 3⟩, ⟨S128x1, w 2⟩, ⟨S128x1, w 1⟩, ⟨S128x1, w 0⟩] concatenates_S128x1_S128x1_S128x1_S128x1_S128x1_S128x1_S128x1_S128x1_S128x1_S128x1_S128x1_S128x1_S128x1_S128x1_S128x1_S128x1_S128x16_d1)) shapeCasts_S128x16_S1x1x128x16

theorem slotVal_eq (X : Block Ideal) (c : Dev nD) : slotVal X c = slotOf (zword c) (ext (cand X c)) := rfl

set_option maxHeartbeats 1000000 in
theorem slotOf_at (c : Dev nD) (w : ℕ → FVec Ideal S128x1 .f32) (i : Fin 128) (k : Fin 16) :
    slotOf (zword c) w (ix4 0 0 i k) = w (if c.val % 2 = 0 then k.val else 15 - k.val) (ix2 i 0) := by
  unfold slotOf
  rw [zword_eq]
  split
  · fin_cases k <;> pointwise
  · fin_cases k <;> pointwise

end Cert.Exchange

end
-- ==== Proof.Answer.lean ====
/-
# The reference's result

The reference sorts the negated rows together with the positions and takes each row's entries at the first sixteen positions. Every
position is one of the row, so nothing is masked; each row of the result is the top of the row in ascending order, read from its end.
-/
module

public import proofs.«01_k».proof.Proof.Gen.ReferenceIdeal.Run
public import proofs.«01_k».proof.Proof.Sorted

@[expose] public section

noncomputable section

namespace Cert.Answer

open Idealize.ShloMosaic Idealize.ShloMosaic.TcCoe Idealize.SL.Sem Cert.Largest Cert.ReferenceIdeal Cert.ReferenceIdeal.Gen

/-- The rows' positions in the order of the negated entries. -/
def order (x : S512x8192.Idx → EReal) : IVec S512x8192 32 :=
  (Host.sort2 S512x8192 1 (comparator_f32_i32_d1 (F := Ideal)) (Host.negf (F := Ideal) (φ := .f32) x) (iotaInDim S512x8192 32 1)).2

/-- The first sixteen, a negative one counted from the end. -/
def wrapped (w : IVec S512x8192 32) : IVec S512x16x1 32 :=
  shapeCast S512x16x1 (select (cmpi .slt (extractStridedSlice S512x16 ![0, 0] w slices_S512x8192_S512x16_0_0) (broadcastInDim S512x16 ![] bcast_S_S512x16 (constantI S_ 32 0#32)))
    (addi (extractStridedSlice S512x16 ![0, 0] w slices_S512x8192_S512x16_0_0) (broadcastInDim S512x16 ![] bcast_S_S512x16 (constantI S_ 32 8192#32)))
    (extractStridedSlice S512x16 ![0, 0] w slices_S512x8192_S512x16_0_0)) shapeCasts_S512x16_S512x16x1

/-- Whether a position is one of the row. -/
def inside (i : IVec S512x16x1 32) : IVec S512x16x1 1 :=
  andi (cmpi .sge i (broadcastInDim S512x16x1 ![] bcast_S_S512x16x1 (constantI S_ 32 0#32)))
    (cmpi .sle i (broadcastInDim S512x16x1 ![0, 1, 2] bcast_S1x1x1_S512x16x1_0_1_2 (broadcastInDim S1x1x1 ![2] bcast_S1_S1x1x1_2 (constantI S1 32 8191#32))))

/-- The entries at the positions. -/
def taken (x : S512x8192.Idx → EReal) (i : IVec S512x16x1 32) : S512x16.Idx → EReal :=
  select (Host.reduce IntOp.andi (inside i) (constantI S_ 1 1#1) reducesTo_S512x16x1_S512x16_d2 h_S_)
    (Host.gather gather_S512x8192_S512x16x1_S512x16_n_1_0_0_1_2_11 x i)
    (broadcastInDim S512x16 ![] bcast_S_S512x16 (constant (F := Ideal) S_ .f32 0x7FC00000#32))

/-- The result. -/
def result (x : S512x8192.Idx → EReal) : S512x16.Idx → EReal := taken x (wrapped (order x))

/-- A conjunction of ones is one. -/
theorem foldl_and {β : Type} (m : List β) (f : β → BitVec 1) (h : ∀ b ∈ m, f b = 1#1) :
    m.foldl (fun r b => IntOp.andi r (f b)) 1#1 = 1#1 := by
  induction m with
  | nil => rfl
  | cons b m ih =>
    rw [List.foldl_cons, h b List.mem_cons_self]
    exact ih fun c hc => h c (List.mem_cons_of_mem _ hc)

theorem slt_zero (v : BitVec 32) (h : v.toNat < 8192) : IntOp.cmpi .slt v 0#32 = 0#1 := by
  show BitVec.ofBool (decide (v.toInt < (0#32).toInt)) = 0#1
  rw [BitVec.toInt_eq_toNat_of_lt (by omega), decide_eq_false (by simp)]
  rfl

theorem sge_zero (v : BitVec 32) (h : v.toNat < 8192) : IntOp.cmpi .sge v 0#32 = 1#1 := by
  show BitVec.ofBool (decide ((0#32).toInt ≤ v.toInt)) = 1#1
  rw [BitVec.toInt_eq_toNat_of_lt (x := v) (by omega), decide_eq_true (by simp)]
  rfl

theorem sle_last (v : BitVec 32) (h : v.toNat < 8192) : IntOp.cmpi .sle v 8191#32 = 1#1 := by
  show BitVec.ofBool (decide (v.toInt ≤ (8191#32).toInt)) = 1#1
  rw [BitVec.toInt_eq_toNat_of_lt (x := v) (by omega), decide_eq_true (by simp; omega)]
  rfl

theorem gather_at (x : S512x8192.Idx → EReal) (i : IVec S512x16x1 32) (r : Fin 512) (k : Fin 16) :
    Host.gather gather_S512x8192_S512x16x1_S512x16_n_1_0_0_1_2_11 x i (ix2 r k) = x (ix2 r ⟨min (i (ix3 r k 0)).toInt.toNat 8191, by omega⟩) := by
  unfold Host.gather
  congr 1
  funext a
  refine Fin.ext ?_
  match a with
  | ⟨0, _⟩ =>
    have h1 : GatherDims.start gather_S512x8192_S512x16x1_S512x16_n_1_0_0_1_2_11 (ix2 r k) i 0 = 0 := rfl
    have h2 : GatherDims.batchCoord gather_S512x8192_S512x16x1_S512x16_n_1_0_0_1_2_11 (ix2 r k) 0 = r.val := rfl
    have h3 : GatherDims.offCoord gather_S512x8192_S512x16x1_S512x16_n_1_0_0_1_2_11 (ix2 r k) 0 = 0 := rfl
    show GatherDims.start _ _ _ _ + GatherDims.batchCoord _ _ _ + GatherDims.offCoord _ _ _ = _
    exact (congrArg₂ (· + ·) (congrArg₂ (· + ·) h1 h2) h3).trans (by simp)
  | ⟨1, _⟩ =>
    have hs : GatherDims.siIdx gather_S512x8192_S512x16x1_S512x16_n_1_0_0_1_2_11 (ix2 r k) ⟨0, Nat.one_pos⟩ = ix3 r k 0 := by
      funext b
      match b with
      | ⟨0, _⟩ => rfl
      | ⟨1, _⟩ => rfl
      | ⟨2, _⟩ => rfl
    have h1 : GatherDims.start gather_S512x8192_S512x16x1_S512x16_n_1_0_0_1_2_11 (ix2 r k) i 1 = min (i (ix3 r k 0)).toInt.toNat 8191 :=
      congrArg (fun j => min (i j).toInt.toNat 8191) hs
    have h2 : GatherDims.batchCoord gather_S512x8192_S512x16x1_S512x16_n_1_0_0_1_2_11 (ix2 r k) 1 = 0 := rfl
    have h3 : GatherDims.offCoord gather_S512x8192_S512x16x1_S512x16_n_1_0_0_1_2_11 (ix2 r k) 1 = 0 := rfl
    show GatherDims.start _ _ _ _ + GatherDims.batchCoord _ _ _ + GatherDims.offCoord _ _ _ = _
    exact congrArg₂ (· + ·) (congrArg₂ (· + ·) h1 h2) h3

theorem wrapped_at (w : IVec S512x8192 32) (r : Fin 512) (k : Fin 16) (hw : (w (ix2 r ⟨k.val, by omega⟩)).toNat < 8192) :
    wrapped w (ix3 r k 0) = w (ix2 r ⟨k.val, by omega⟩) := by
  unfold wrapped
  pointwise
  rw [slt_zero _ hw]
  rfl

theorem inside_at (i : IVec S512x16x1 32) (j : S512x16x1.Idx) (h : (i j).toNat < 8192) : inside i j = 1#1 := by
  unfold inside
  pointwise
  rw [sge_zero _ h, sle_last _ h]
  rfl

theorem taken_at (x : S512x8192.Idx → EReal) (i : IVec S512x16x1 32) (h : ∀ j, (i j).toNat < 8192) (r : Fin 512) (k : Fin 16) :
    taken x i (ix2 r k) = x (ix2 r ⟨(i (ix3 r k 0)).toNat, h _⟩) := by
  unfold taken
  have hm : Host.reduce IntOp.andi (inside i) (constantI S_ 1 1#1) reducesTo_S512x16x1_S512x16_d2 h_S_ (ix2 r k) = 1#1 := by
    unfold Host.reduce
    exact foldl_and _ _ fun b _ => inside_at i _ (h _)
  rw [ValueIdx.select_apply, hm, gather_at, ValueIdx.select_one]
  have hh := h (ix3 r k 0)
  have e : (⟨min (i (ix3 r k 0)).toInt.toNat 8191, by omega⟩ : Fin 8192) = ⟨(i (ix3 r k 0)).toNat, hh⟩ := by
    rw [Fin.mk.injEq, BitVec.toInt_eq_toNat_of_lt (by omega)]
    omega
  exact congrArg (fun i : Fin 8192 => x (ix2 r i)) e

/-- The position that stands at place `k` of row `r`'s order. -/
def place (x : S512x8192.Idx → EReal) (r : Fin 512) : Fin 8192 → Fin 8192 :=
  sortedFrom fun k k' => comparator_f32_i32_d1 (F := Ideal) (-x (ix2 r k), BitVec.ofNat 32 k.val) (-x (ix2 r k'), BitVec.ofNat 32 k'.val) == 1#1

theorem order_at (x : S512x8192.Idx → EReal) (r : Fin 512) (k : Fin 8192) : order x (ix2 r k) = BitVec.ofNat 32 (place x r k).val := by
  have ha : ∀ i : Fin 8192, Shape.Idx.along (s := S512x8192) (ix2 r k) 1 i = ix2 r i := fun i => by
    funext b
    match b with
    | ⟨0, _⟩ => rfl
    | ⟨1, _⟩ => rfl
  unfold order Host.sort2
  rw [dif_pos (show 1 < S512x8192.rank by decide)]
  show iotaInDim S512x8192 32 1 (Shape.Idx.along (s := S512x8192) (ix2 r k) 1 (sortedFrom (fun (i i' : Fin 8192) =>
      comparator_f32_i32_d1 (F := Ideal) (-x (Shape.Idx.along (s := S512x8192) (ix2 r k) 1 i), BitVec.ofNat 32 (Shape.Idx.along (s := S512x8192) (ix2 r k) 1 i 1).val)
        (-x (Shape.Idx.along (s := S512x8192) (ix2 r k) 1 i'), BitVec.ofNat 32 (Shape.Idx.along (s := S512x8192) (ix2 r k) 1 i' 1).val) == 1#1) k)) = _
  have h1 : ∀ i : Fin 8192, (ix2 r i : S512x8192.Idx) 1 = i := fun _ => rfl
  unfold place
  have h2 : ∀ i : Fin 8192, Shape.Idx.along (s := S512x8192) (ix2 r k) 1 i 1 = i := fun i => congrFun (ha i) 1
  simp only [ha, iotaInDim, h1]
  exact congrArg (fun i : Fin 8192 => BitVec.ofNat 32 i.val) (h2 _)

theorem order_lt (x : S512x8192.Idx → EReal) (r : Fin 512) (k : Fin 8192) : (order x (ix2 r k)).toNat = (place x r k).val := by
  rw [order_at, BitVec.toNat_ofNat]
  exact Nat.mod_eq_of_lt (by have := (place x r k).isLt; omega)

theorem result_at (x : S512x8192.Idx → EReal) (r : Fin 512) (k : Fin 16) : result x (ix2 r k) = x (ix2 r (place x r ⟨k.val, by omega⟩)) := by
  have hw : ∀ (r : Fin 512) (k : Fin 16), wrapped (order x) (ix3 r k 0) = order x (ix2 r ⟨k.val, by omega⟩) := fun r k =>
    wrapped_at _ r k (by rw [order_lt]; exact Fin.isLt _)
  have hall : ∀ j, (wrapped (order x) j).toNat < 8192 := fun j => by
    have hj : j = ix3 (j 0) (j 1) 0 := by
      funext b
      match b with
      | ⟨0, _⟩ => rfl
      | ⟨1, _⟩ => rfl
      | ⟨2, _⟩ => exact Subsingleton.elim (α := Fin 1) _ _
    rw [hj]
    exact lt_of_eq_of_lt ((congrArg BitVec.toNat (hw (j 0) (j 1))).trans (order_lt x (j 0) _)) (Fin.isLt _)
  have e : (⟨(wrapped (order x) (ix3 r k 0)).toNat, hall _⟩ : Fin 8192) = place x r ⟨k.val, by omega⟩ := by
    apply Fin.val_injective
    rw [← order_lt, ← hw]
  exact (taken_at x _ hall r k).trans (congrArg (fun i : Fin 8192 => x (ix2 r i)) e)

theorem isSort_place (x : S512x8192.Idx → EReal) (r : Fin 512) :
    IsSort (fun j => x (ix2 r j)) fun k => x (ix2 r (place x r (Fin.rev k))) := by
  have h : IsSort (fun j => -x (ix2 r j)) fun k => -x (ix2 r (place x r k)) :=
    Sorted.isSort_sortedFrom (fun j : Fin 8192 => -x (ix2 r j)) _ fun i i' =>
      beq_iff_eq.trans (Sorted.comparator_two (-x (ix2 r i), BitVec.ofNat 32 i.val) (-x (ix2 r i'), BitVec.ofNat 32 i'.val))
  refine ⟨fun k => place x r (Fin.rev k), ?_, fun _ => rfl, fun i j hij => ?_⟩
  · exact ⟨fun a b e => Fin.rev_injective (sortedFrom_injective _ e), fun b => by
      obtain ⟨a, ha⟩ := sortedFrom_surjective _ b
      exact ⟨Fin.rev a, (congrArg (place x r) (Fin.rev_rev a)).trans ha⟩⟩
  · exact EReal.neg_le_neg_iff.mp (h.mono (Fin.rev_le_rev.mpr hij.le))

/-- The result reaches a threshold at as many places as the row does. -/
theorem le_result (x : S512x8192.Idx → EReal) (r : Fin 512) (k : Fin 16) (θ : EReal) :
    θ ≤ result x (ix2 r k) ↔ k.val < reach (fun j => x (ix2 r j)) θ := by
  have h := (isSort_place x r).le_iff θ (Fin.rev ⟨k.val, by omega⟩)
  rw [Fin.rev_rev] at h
  rw [result_at, h, Fin.val_rev]
  have := k.isLt
  show 8192 - (8192 - (k.val + 1)) ≤ _ ↔ _
  omega

/-- The reference runs and ends with the result. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v3) = result (m ((c.tc : Thread nD τ).loc main_arg0))
      ∧ r.2.mem ((c.tc : Thread nD τ).loc main_arg0) = m ((c.tc : Thread nD τ).loc main_arg0) :=
  Cert.ReferenceIdeal.Value.run (F := Ideal) m ρ

end Cert.Answer

end
-- ==== Proof.Join.lean ====
/-
# The result is the reference's

Two devices hold the halves of a row: one lays its sixteen largest entries out in descending order, the other in ascending order. The
merging network puts them together, so place `k` reaches a threshold exactly if more than `k` entries of the whole row do, as with the
reference.
-/
module

public import proofs.«01_k».proof.Proof.Body
public import proofs.«01_k».proof.Proof.Merge
public import proofs.«01_k».proof.Proof.Device
public import proofs.«01_k».proof.Proof.Answer

@[expose] public section

noncomputable section

namespace Cert.Exchange

open Idealize.ShloMosaic Cert.KernelIdeal Cert.KernelIdeal.Gen Cert.Largest

/-- The device of slot `z` of quarter `q`. -/
def holder (z : Fin 2) (q : Fin 4) : Dev nD := ⟨2 * q.val + z.val, by show _ < 8; omega⟩

theorem off_holder (z : Fin 2) (q : Fin 4) : k0_off33 (holder z q) = ![z.val, q.val, 0, 0] := by
  revert z q; decide +kernel

theorem shared_read (X : Dev nD → Block Ideal) (z : Fin 2) (q : Fin 4) (i : Fin 128) (k : Fin 16) :
    (shared X : S2x4x128x16.Idx → EReal) (ix4 z q i k) = slotVal (X (holder z q)) (holder z q) (ix4 0 0 i k) := by
  show stored (holder z q) (fun _ => low) (slotVal (X (holder z q)) (holder z q)) (ix4 z q i k) = _
  have e : ((scrM : Memref sig .tc .vmem S2x4x128x16 .f32).access (slotRect (holder z q))).emb (ix4 (0 : Fin 1) (0 : Fin 1) i k) = (ix4 z q i k : S2x4x128x16.Idx) := by
    have ho := off_holder z q
    funext a
    match a with
    | ⟨0, _⟩ => exact Fin.ext (show k0_off33 (holder z q) 0 + 1 * 0 = z.val by rw [ho]; rfl)
    | ⟨1, _⟩ => exact Fin.ext (show k0_off33 (holder z q) 1 + 1 * 0 = q.val by rw [ho]; rfl)
    | ⟨2, _⟩ => exact Fin.ext (show k0_off33 (holder z q) 2 + 1 * i.val = i.val by rw [ho]; show 0 + 1 * i.val = _; omega)
    | ⟨3, _⟩ => exact Fin.ext (show k0_off33 (holder z q) 3 + 1 * k.val = k.val by rw [ho]; show 0 + 1 * k.val = _; omega)
  unfold stored
  rw [← e, View.write_emb_of_mem _ _ (Finset.mem_univ _)]
  rfl

theorem half0_at (G : Contents Ideal) (q : Fin 4) (i : Fin 128) (k : Fin 16) : half0 G (ix4 0 q i k) = (G : S2x4x128x16.Idx → EReal) (ix4 0 q i k) := by
  refine congrArg (G : S2x4x128x16.Idx → EReal) (funext fun a => ?_)
  match a with
  | ⟨0, _⟩ => rfl
  | ⟨1, _⟩ => exact Fin.ext (show 0 + 1 * q.val = q.val by omega)
  | ⟨2, _⟩ => exact Fin.ext (show 0 + 1 * i.val = i.val by omega)
  | ⟨3, _⟩ => exact Fin.ext (show 0 + 1 * k.val = k.val by omega)

theorem half1_at (G : Contents Ideal) (q : Fin 4) (i : Fin 128) (k : Fin 16) : half1 G (ix4 0 q i k) = (G : S2x4x128x16.Idx → EReal) (ix4 1 q i k) := by
  refine congrArg (G : S2x4x128x16.Idx → EReal) (funext fun a => ?_)
  match a with
  | ⟨0, _⟩ => rfl
  | ⟨1, _⟩ => exact Fin.ext (show 0 + 1 * q.val = q.val by omega)
  | ⟨2, _⟩ => exact Fin.ext (show 0 + 1 * i.val = i.val by omega)
  | ⟨3, _⟩ => exact Fin.ext (show 0 + 1 * k.val = k.val by omega)

theorem larger_at (l0 l1 : Vec Ideal S1x4x128x16 .f32) (q : Fin 4) (i : Fin 128) (k : Fin 16) :
    (larger l0 l1 (ix3 q i k) : EReal) = max (l0 (ix4 0 q i k)) (l1 (ix4 0 q i k)) := by
  unfold larger
  pointwise

theorem merged_at (l0 l1 : Vec Ideal S1x4x128x16 .f32) (r : Fin 512) (k : Fin 16) :
    (merged l0 l1 (ix2 r k) : EReal) = net max min (line (larger l0 l1) ⟨r.val / 128, by omega⟩ ⟨r.val % 128, by omega⟩) k.val := by
  rw [merged_eq]
  generalize larger l0 l1 = v
  pointwise
  rw [apart1_at]
  refine stage_congr max min (by tauto) (fun k hk => ?_) k.val k.isLt
  rw [show line (apart2 (apart4 (apart8 v))) _ _ k = _ from line_eq _ _ _ ⟨k, hk⟩, apart2_at]
  refine stage_congr max min (by tauto) (fun k hk => ?_) k hk
  rw [show line (apart4 (apart8 v)) _ _ k = _ from line_eq _ _ _ ⟨k, hk⟩, apart4_at]
  refine stage_congr max min (by tauto) (fun k hk => ?_) k hk
  rw [show line (apart8 v) _ _ k = _ from line_eq _ _ _ ⟨k, hk⟩, apart8_at]

/-- The largest entries of a row reach a threshold as far as the row does. -/
theorem le_top {u s : Fin 4096 → EReal} (h : IsSort u s) (θ : EReal) (k : ℕ) (hk : k < 16) : θ ≤ top s k ↔ k < reach u θ := by
  have := h.le_iff θ ⟨4095 - k, by omega⟩
  unfold top
  rw [this]
  show 4096 - (4095 - k) ≤ _ ↔ _
  omega

variable (x : Cert.ReferenceIdeal.S512x8192.Idx → EReal) (X : Dev nD → Block Ideal) (s : Dev nD → Fin 512 → Fin 4096 → EReal)

/-- A slot's entries, by the row's largest. -/
theorem slot_row (hrow : ∀ c r, Readable.Row (fun j => (X c : S512x4096.Idx → EReal) (ix2 r j)) (s c r)) (z : Fin 2) (q : Fin 4) (i : Fin 128) (k : Fin 16) :
    (shared X : S2x4x128x16.Idx → EReal) (ix4 z q i k) =
      top (s (holder z q) (place (holder z q) i)) (if z.val = 0 then k.val else 15 - k.val) := by
  rw [shared_read, slotVal_eq, slotOf_at]
  have hz : (holder z q).val % 2 = z.val := by show (2 * q.val + z.val) % 2 = z.val; omega
  rw [hz]
  exact ext_at (X (holder z q)) (holder z q) i (s (holder z q) (place (holder z q) i)) (hrow _ _) _ (by split <;> omega)

theorem out_at (hX : ∀ (c : Dev nD) (r : Fin 512) (j : Fin 4096),
      (X c : S512x4096.Idx → EReal) (ix2 r j) = x (ix2 r ⟨4096 * (c.val % 2) + j.val, by omega⟩))
    (hrow : ∀ c r, Readable.Row (fun j => (X c : S512x4096.Idx → EReal) (ix2 r j)) (s c r)) (r : Fin 512) (k : Fin 16) :
    (outVal X (ix2 r k) : EReal) = Answer.result x (ix2 r k) := by
  refine eq_of_reach fun θ => ?_
  let q : Fin 4 := ⟨r.val / 128, by omega⟩
  let i : Fin 128 := ⟨r.val % 128, by omega⟩
  have hplace : ∀ z, place (holder z q) i = r := fun z => Fin.ext (by
    show 256 * ((2 * (r.val / 128) + z.val) / 4) + 128 * ((2 * (r.val / 128) + z.val) / 2 % 2) + r.val % 128 = r.val
    omega)
  have hline : ∀ k, k < 16 → line (larger (half0 (shared X)) (half1 (shared X))) q i k =
      max (top (s (holder 0 q) r) k) (top (s (holder 1 q) r) (15 - k)) := fun k hk => by
    rw [show line (larger (half0 (shared X)) (half1 (shared X))) q i k = _ from line_eq _ _ _ ⟨k, hk⟩, larger_at, half0_at, half1_at,
      slot_row X s hrow, slot_row X s hrow, hplace, hplace]
    rfl
  unfold outVal
  rw [merged_at, net_congr max min hline k.val k.isLt, Answer.le_result]
  have hhalf : ∀ z (c : Dev nD), c.val % 2 = z → reach (α := EReal) (fun j : Fin 4096 => (X c : S512x4096.Idx → EReal) (ix2 r j)) θ =
      reach (fun j : Fin 4096 => x (ix2 r ⟨4096 * (z % 2) + j.val, by omega⟩)) θ := fun z c hc => by
    subst hc
    simp only [hX, Nat.mod_mod]
  rw [le_net (fun k hk => le_top (hrow (holder 0 q) r).sorted θ k hk) (fun k hk => le_top (hrow (holder 1 q) r).sorted θ k hk) k.val k.isLt,
    hhalf 0 (holder 0 q) (by show (2 * q.val + 0) % 2 = 0; omega), hhalf 1 (holder 1 q) (by show (2 * q.val + 1) % 2 = 1; omega)]
  have h2 := reach_halves (n := 4096) (fun j => x (ix2 r j)) θ
  have ea : (fun j : Fin 4096 => x (ix2 r (Fin.castAdd 4096 j))) = fun j : Fin 4096 => x (ix2 r ⟨4096 * (0 % 2) + j.val, by omega⟩) :=
    funext fun j => congrArg (fun j : Fin 8192 => x (ix2 r j)) (Fin.val_injective (by show j.val = 4096 * (0 % 2) + j.val; omega))
  have eb : (fun j : Fin 4096 => x (ix2 r (Fin.natAdd 4096 j))) = fun j : Fin 4096 => x (ix2 r ⟨4096 * (1 % 2) + j.val, by omega⟩) :=
    funext fun j => congrArg (fun j : Fin 8192 => x (ix2 r j)) (Fin.val_injective (by show 4096 + j.val = 4096 * (1 % 2) + j.val; omega))
  rw [ea, eb] at h2
  exact iff_of_eq (congrArg (k.val < ·) h2.symm)

/-- The kernel's result is the reference's. -/
theorem out_eq (hX : ∀ (c : Dev nD) (r : Fin 512) (j : Fin 4096),
      (X c : S512x4096.Idx → EReal) (ix2 r j) = x (ix2 r ⟨4096 * (c.val % 2) + j.val, by omega⟩))
    (hrow : ∀ c r, Readable.Row (fun j => (X c : S512x4096.Idx → EReal) (ix2 r j)) (s c r)) :
    (outVal X : S512x16.Idx → EReal) = Answer.result x := by
  funext j
  have e : j = ix2 (j 0) (j 1) := by
    funext a
    match a with
    | ⟨0, _⟩ => rfl
    | ⟨1, _⟩ => rfl
  rw [e]
  exact out_at x X s hX hrow (j 0) (j 1)

end Cert.Exchange

end
-- ==== Proof.Value.lean ====
/-
# The kernel's value

The run's final memory: on every device the result array holds the reference's result of the whole argument.
-/
module

public import proofs.«01_k».proof.Proof.Run
public import proofs.«01_k».proof.Proof.Join
public import Idealize.ShloMosaic.Lib.Layout

@[expose] public section

noncomputable section

namespace Cert.Exchange

open Idealize.ShloMosaic Idealize.ShloMosaic.TcCoe Idealize.ShloMosaic.Rounds Idealize.SL Idealize.SL.Sem
open Cert.KernelIdeal Cert.KernelIdeal.Gen

section
variable {F : FTy → Type} [FloatOps F]
variable (m : (ℓ : Loc nD τ sig) → Buf (Elt F) ℓ) (ρ : Dev nD → PrngReg)

/-- The one block of the argument is the argument. -/
theorem blockOf_eq (c : Dev nD) : (blockOf m ρ c : S512x4096.Idx → Elt F .f32) = m ((c.tc : Thread nD τ).loc main_arg0) := by
  funext i
  refine congrArg (m ((c.tc : Thread nD τ).loc main_arg0)) (funext fun a => ?_)
  match a with
  | ⟨0, _⟩ => exact Fin.ext (show 0 * 512 + 1 * (i 0).val = (i 0).val by omega)
  | ⟨1, _⟩ => exact Fin.ext (show 0 * 4096 + 1 * (i 1).val = (i 1).val by omega)

/-- The one block of the result is the result. -/
theorem read_result (f : S512x16.Idx → Elt F .f32) (i : S512x16.Idx) : (win0_1.blk (0 : Fin 1)).view.read (Elt F) f i = f i := by
  refine congrArg f (funext fun a => ?_)
  match a with
  | ⟨0, _⟩ => exact Fin.ext (show 0 * 512 + 1 * (i 0).val = (i 0).val by omega)
  | ⟨1, _⟩ => exact Fin.ext (show 0 * 16 + 1 * (i 1).val = (i 1).val by omega)

/-- The result array after the run. -/
theorem finalA_result (c : Dev nD) : (finalA m ρ c (1 : Fin 2) : S512x16.Idx → Elt F .f32) = outVal (blockOf m ρ) := by
  have h : (win0_1.blk (0 : Fin 1)).view.read (Elt F) (finalA m ρ c (1 : Fin 2)) = outVal (blockOf m ρ) := by
    have hn : cfg0.N = ((0 : Fin 1) : Fin cfg0.N).val + 1 := rfl
    unfold finalA
    rw [hn, (dats m ρ 0 c).arrAt_succ (1 : Fin 2) (0 : Fin 1), if_pos (show (cfg0.win (1 : Fin 2)).flush (0 : Fin 1) = true by decide)]
    exact View.read_write_univ _ _
  funext i
  exact (read_result (finalA m ρ c (1 : Fin 2)) i).symm.trans (congrFun h i)

end

/-- A device's block of an array, read at an entry. -/
theorem block_at (x : Cert.ReferenceIdeal.S512x8192.Idx → EReal) (c : Dev nD) (r : Fin 512) (j : Fin 4096) :
    (Layout.blockN ⟨2, ![512, 4096]⟩ ⟨2, ![512, 8192]⟩ (Layout.meshBlock [2, 2, 2] ![[], [2]] c) x) (ix2 r j) =
      x (ix2 r ⟨4096 * (c.val % 2) + j.val, by omega⟩) := by
  have hc : Layout.meshLin [2, 2, 2] c.val [2] = c.val % 2 := by revert c; decide +kernel
  refine congrArg x (funext fun a => ?_)
  match a with
  | ⟨0, _⟩ => exact Fin.ext (show 0 * 512 + r.val = r.val by omega)
  | ⟨1, _⟩ => exact Fin.ext (show Layout.meshLin [2, 2, 2] c.val [2] * 4096 + j.val = 4096 * (c.val % 2) + j.val by rw [hc]; omega)

variable [Cert.Pre_top16_readable_KernelIdeal.Facts]

/-- Under the precondition the run ends with the reference's result on every device. -/
theorem value (m : (ℓ : Loc nD τ sig) → Buf (Elt Ideal) ℓ) (ρ : Dev nD → PrngReg) (x : Cert.ReferenceIdeal.S512x8192.Idx → EReal)
    (hpre : ∀ c : Dev nD, (Cert.Pre_top16_readable_KernelIdeal.fn (F := Ideal) (m ((c.tc : Thread nD τ).loc main_arg0))).1 = (fun _ => 1#1)
      ∧ (Cert.Pre_top16_readable_KernelIdeal.fn (F := Ideal) (m ((c.tc : Thread nD τ).loc main_arg0))).2.1 = (fun _ => 1#1)
      ∧ (Cert.Pre_top16_readable_KernelIdeal.fn (F := Ideal) (m ((c.tc : Thread nD τ).loc main_arg0))).2.2 = (fun _ => 1#1))
    (hx : ∀ c : Dev nD, m ((c.tc : Thread nD τ).loc main_arg0) =
      Layout.blockN ⟨2, ![512, 4096]⟩ ⟨2, ![512, 8192]⟩ (Layout.meshBlock [2, 2, 2] ![[], [2]] c) x) :
    θ_run defs (onTc (τ := τ) (main (F := Ideal))) ⟨m, fun _ => 0, ρ⟩
      (fun r => ∀ c : Dev nD, r.2.mem ((c.tc : Thread nD τ).loc main_v1) = Answer.result x
        ∧ r.2.mem ((c.tc : Thread nD τ).loc main_arg0) = m ((c.tc : Thread nD τ).loc main_arg0)) := by
  refine (θ_run defs _ _).mono (fun r h c => ⟨?_, (h.1 c (0 : Fin 2)).trans (finalA_x m ρ c)⟩) (run_main (F := Ideal) m ρ)
  refine (h.1 c (1 : Fin 2)).trans ((finalA_result m ρ c).trans ?_)
  refine out_eq x (blockOf m ρ) (fun c r => Readable.rows (m ((c.tc : Thread nD τ).loc main_arg0)) r) (fun c r j => ?_) (fun c r => ?_)
  · rw [blockOf_eq, hx]
    exact block_at x c r j
  · rw [blockOf_eq]
    exact Readable.row _ (hpre c).1 (hpre c).2.1 (hpre c).2.2 r

end Cert.Exchange

end
-- ==== Proof.lean ====
/-
# The certificate

The frames of the kernel and of the reference, and that the idealized kernel ends with the reference's result on every device.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_top16_readable_KernelIdeal
public import proofs.«01_k».proof.Proof.Gen.Pre_top16_readable_ReferenceIdeal
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel's frame, for any float values: the run with the values of its results dropped. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩
      (fun r => (∀ c : Dev Cert.KernelIdeal.nD, r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)) ∧ r.2.sem = fun _ => 0) :=
  (θ_run Cert.KernelIdeal.defs _ _).mono (fun _ h => ⟨fun c => (h.1 c (0 : Fin 2)).trans (Cert.Exchange.finalA_x m ρ c), h.2⟩)
    (Cert.Exchange.run_main (F := F) m ρ)

theorem frame_kernelIdeal : Cert.quiescent_KernelIdeal := fun m ρ _ => frame_any (F := Ideal) m ρ

/-- The kernel's body table is that of the idealized kernel, whose text is the same. -/
theorem bodies_eq : @Cert.KernelIdeal.defs₀ Bits _ _ = @Cert.Kernel.defs₀ Bits _ _ := by
  unfold Cert.KernelIdeal.defs₀ Cert.Kernel.defs₀
  refine congrArg Defs.onTc ?_
  funext l a
  match l, a with
  | 0, (t, s) => rfl

theorem defs_eq : @Cert.KernelIdeal.defs Bits _ _ = @Cert.Kernel.defs Bits _ _ := by
  show Pipeline.defs _ _ = Pipeline.defs _ _
  exact congrArg (Pipeline.defs (Cert.Kernel.pcfgs (F := Bits))) bodies_eq

theorem frame_kernel : Cert.quiescent_Kernel := fun m ρ _ => by
  have h := frame_any (F := Bits) m ρ
  rw [defs_eq] at h
  exact h

theorem frame_referenceIdeal : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem frame_kernelIdeal_pre : Cert.quiescent_KernelIdeal_pre_top16_readable_KernelIdeal := fun m ρ _ => frame_any (F := Ideal) m ρ

theorem frame_referenceIdeal_pre : Cert.quiescent_ReferenceIdeal_pre_top16_readable_ReferenceIdeal := fun m ρ _ =>
  frame_referenceIdeal m ρ trivial

/-- Under the precondition every device ends with the reference's result. -/
theorem algebraic : Cert.algebraic_KernelIdeal_ReferenceIdeal_pre_top16_readable_KernelIdeal := fun m g m' g' hpre hx =>
  ⟨Cert.Answer.result (m' (((0 : Dev Cert.ReferenceIdeal.nD).tc : Thread Cert.ReferenceIdeal.nD Cert.ReferenceIdeal.τ).loc Cert.ReferenceIdeal.main_arg0)),
    Cert.Exchange.value m g _ hpre hx,
    (θ_run Cert.ReferenceIdeal.defs _ _).mono (fun _ h => h 0) (Cert.Answer.run m' g')⟩

theorem claim : Cert.Claim := ⟨Cert.Kernel.Gen.facts, Cert.KernelIdeal.Gen.facts, Cert.ReferenceIdeal.Gen.facts,
  Cert.Pre_top16_readable_KernelIdeal.Gen.facts, Cert.Pre_top16_readable_ReferenceIdeal.Gen.facts,
  frame_kernel, frame_kernelIdeal, frame_kernelIdeal_pre, frame_referenceIdeal, frame_referenceIdeal_pre, trivial, algebraic⟩

end Cert.Proof

end
